-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0x4E6E6B28#32 ⊤

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v714) = v0 c
          ∧ r.2.mem ((c.tc : Thread Cert.ReferenceIdeal.nD Cert.ReferenceIdeal.τ).loc Cert.ReferenceIdeal.main_v735) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S8x256x256 : Shape := ⟨3, ![8, 256, 256]⟩
abbrev S_ : Shape := ⟨0, ![]⟩

class Facts : Prop where
  bcast_S_S8x256x256 : S_.BroadcastsInDim S8x256x256 (![] : Fin 0 → Fin S8x256x256.rank)

variable [Facts]

def fn {F : FTy → Type} [FloatOps F] (main_arg0 : FVec F S8x256x256 .f32) : IVec S8x256x256 1 :=
  let main_cst : FVec F S_ .f32 := constant S_ .f32 0xFF800000#32
  let main_v0 : FVec F S8x256x256 .f32 := broadcastInDim S8x256x256 ![] bcast_S_S8x256x256 main_cst
  let main_v1 : IVec S8x256x256 1 := cmpf .ogt main_arg0 main_v0
  let main_cst_0 : FVec F S_ .f32 := constant S_ .f32 0x4AB71B00#32
  let main_v2 : FVec F S8x256x256 .f32 := broadcastInDim S8x256x256 ![] bcast_S_S8x256x256 main_cst_0
  let main_v3 : IVec S8x256x256 1 := cmpf .ole main_arg0 main_v2
  let main_v4 : IVec S8x256x256 1 := andi main_v1 main_v3
  main_v4
-- ==== Kernel.lean ====
abbrev S8x256x256 : Shape := ⟨3, ![8, 256, 256]⟩
abbrev S8x256x16 : Shape := ⟨3, ![8, 256, 16]⟩
abbrev S8x256x16x256 : Shape := ⟨4, ![8, 256, 16, 256]⟩
abbrev S1x256x16x256 : Shape := ⟨4, ![1, 256, 16, 256]⟩
abbrev S8x16x256 : Shape := ⟨3, ![8, 16, 256]⟩
abbrev S8x1x256 : Shape := ⟨3, ![8, 1, 256]⟩
abbrev S8x256x1 : Shape := ⟨3, ![8, 256, 1]⟩
abbrev S8x1x255 : Shape := ⟨3, ![8, 1, 255]⟩
abbrev S8x1x1 : Shape := ⟨3, ![8, 1, 1]⟩
abbrev S8x256 : Shape := ⟨2, ![8, 256]⟩
abbrev S8x255x1 : Shape := ⟨3, ![8, 255, 1]⟩
abbrev S8x256x8 : Shape := ⟨3, ![8, 256, 8]⟩
abbrev S8x8x256 : Shape := ⟨3, ![8, 8, 256]⟩
abbrev S8x16x255 : Shape := ⟨3, ![8, 16, 255]⟩
abbrev S8x16x1 : Shape := ⟨3, ![8, 16, 1]⟩
abbrev S8x15x256 : Shape := ⟨3, ![8, 15, 256]⟩
abbrev S1x16x256 : Shape := ⟨3, ![1, 16, 256]⟩
abbrev S16x256 : Shape := ⟨2, ![16, 256]⟩
abbrev S1x128x256 : Shape := ⟨3, ![1, 128, 256]⟩
abbrev S128x256 : Shape := ⟨2, ![128, 256]⟩
abbrev S128x1x256 : Shape := ⟨3, ![128, 1, 256]⟩
abbrev S128x16x256 : Shape := ⟨3, ![128, 16, 256]⟩
abbrev S128x16 : Shape := ⟨2, ![128, 16]⟩
abbrev S128x16x1 : Shape := ⟨3, ![128, 16, 1]⟩
abbrev S1x128x16x256 : Shape := ⟨4, ![1, 128, 16, 256]⟩
abbrev S1x128x128 : Shape := ⟨3, ![1, 128, 128]⟩
abbrev S128x128 : Shape := ⟨2, ![128, 128]⟩
abbrev S128x1x128 : Shape := ⟨3, ![128, 1, 128]⟩
abbrev S16x128 : Shape := ⟨2, ![16, 128]⟩
abbrev S1x16x128 : Shape := ⟨3, ![1, 16, 128]⟩
abbrev S128x16x128 : Shape := ⟨3, ![128, 16, 128]⟩
abbrev S1x128x16x128 : Shape := ⟨4, ![1, 128, 16, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x256x256, .f32⟩
  | .hbm, ⟨1, _⟩ => ⟨S8x256x16, .f32⟩
  | .hbm, ⟨2, _⟩ => ⟨S8x256x16x256, .f32⟩
  | .local _ .vmem, ⟨0, _⟩ => ⟨S8x256x256, .f32⟩
  | .local _ .vmem, ⟨1, _⟩ => ⟨S8x256x16, .f32⟩
  | .local _ .vmem, ⟨2, _⟩ => ⟨S1x256x16x256, .f32⟩
  | .local _ .vmem, ⟨3, _⟩ => ⟨S1x256x16x256, .f32⟩
  | .local _ .vmem, ⟨4, _⟩ => ⟨S8x256x256, .f32⟩
  | .local _ .vmem, ⟨5, _⟩ => ⟨S8x16x256, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
def k0_off2 (i : grid0.Coords) : Fin 3 → Nat :=
  let arg0 : BitVec 32 := BitVec.ofNat 32 (i 0).val
  let v14 : Index := Scalar.indexCast arg0
  let c0_i32_3 : BitVec 32 := 0#32
  let c128_i32 : BitVec 32 := 128#32
  let v13 : BitVec 32 := Scalar.muli c0_i32_3 c128_i32
  let v15 : Index := Scalar.indexCast v13
  let c0_4 : Index := 0#32
  ![v14.toNat, v15.toNat, 0]
def k0_off3 : Fin 4 → Nat :=
  let c0_10 : Index := 0#32
  let c0_i32_3 : BitVec 32 := 0#32
  let c128_i32 : BitVec 32 := 128#32
  let v13 : BitVec 32 := Scalar.muli c0_i32_3 c128_i32
  let v43 : Index := Scalar.indexCast v13
  let c0_11 : Index := 0#32
  let c0_12 : Index := 0#32
  ![0, v43.toNat, 0, 0]
def k0_off4 (i : grid0.Coords) : Fin 3 → Nat :=
  let arg0 : BitVec 32 := BitVec.ofNat 32 (i 0).val
  let v48 : Index := Scalar.indexCast arg0
  let c1_i32_13 : BitVec 32 := 1#32
  let c128_i32_14 : BitVec 32 := 128#32
  let v47 : BitVec 32 := Scalar.muli c1_i32_13 c128_i32_14
  let v49 : Index := Scalar.indexCast v47
  let c128 : Index := 128#32
  ![v48.toNat, v49.toNat, 128]
def k0_off5 : Fin 4 → Nat :=
  let c0_22 : Index := 0#32
  let c1_i32_13 : BitVec 32 := 1#32
  let c128_i32_14 : BitVec 32 := 128#32
  let v47 : BitVec 32 := Scalar.muli c1_i32_13 c128_i32_14
  let v80 : Index := Scalar.indexCast v47
  let c0_23 : Index := 0#32
  let c0_24 : Index := 0#32
  ![0, v80.toNat, 0, 0]
def k0_off6 : Fin 4 → Nat :=
  let c0_25 : Index := 0#32
  let c1_i32_13 : BitVec 32 := 1#32
  let c128_i32_14 : BitVec 32 := 128#32
  let v47 : BitVec 32 := Scalar.muli c1_i32_13 c128_i32_14
  let v84 : Index := Scalar.indexCast v47
  let c0_26 : Index := 0#32
  let c128_27 : Index := 128#32
  ![0, v84.toNat, 0, 128]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S8x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "mask" => some ⊤
  | _ => none
-- ==== ReferenceIdeal.lean ====
abbrev S8x256x256 : Shape := ⟨3, ![8, 256, 256]⟩
abbrev S_ : Shape := ⟨0, ![]⟩
abbrev S8x256x16 : Shape := ⟨3, ![8, 256, 16]⟩
abbrev S8x256x16x256 : Shape := ⟨4, ![8, 256, 16, 256]⟩
abbrev S8x256x1 : Shape := ⟨3, ![8, 256, 1]⟩
abbrev S8x256 : Shape := ⟨2, ![8, 256]⟩
abbrev S1 : Shape := ⟨1, ![1]⟩
abbrev S2 : Shape := ⟨1, ![2]⟩
abbrev S256 : Shape := ⟨1, ![256]⟩
abbrev S256x1 : Shape := ⟨2, ![256, 1]⟩
abbrev S1x256 : Shape := ⟨2, ![1, 256]⟩
abbrev S8x255 : Shape := ⟨2, ![8, 255]⟩
abbrev S8x1 : Shape := ⟨2, ![8, 1]⟩
abbrev S8x1x256 : Shape := ⟨3, ![8, 1, 256]⟩
abbrev S256x256 : Shape := ⟨2, ![256, 256]⟩
abbrev S1x256x256 : Shape := ⟨3, ![1, 256, 256]⟩
abbrev S8x256x1x256 : Shape := ⟨4, ![8, 256, 1, 256]⟩
abbrev S1x256x1 : Shape := ⟨3, ![1, 256, 1]⟩

abbrev nBuf : Space → Nat
  | .hbm => 968
  | .vmem => 0
  | .smem => 0
  | _ => 0

abbrev hbmTy0_0 (i : Nat) : BufTy := match i % 128 with
  | 0 => ⟨S8x256x256, .f32⟩
  | 1 => ⟨S_, .f32⟩
  | 2 => ⟨S8x256x16, .f32⟩
  | 3 => ⟨S_, .f32⟩
  | 4 => ⟨S8x256x16x256, .f32⟩
  | 5 => ⟨S8x256x16x256, .f32⟩
  | 6 => ⟨S8x256x1, .f32⟩
  | 7 => ⟨S8x256, .f32⟩
  | 8 => ⟨S_, .i32⟩
  | 9 => ⟨S1, .i32⟩
  | 10 => ⟨S8x256x16, .f32⟩
  | 11 => ⟨S_, .i32⟩
  | 12 => ⟨S1, .i32⟩
  | 13 => ⟨S_, .i32⟩
  | 14 => ⟨S1, .i32⟩
  | 15 => ⟨S2, .i32⟩
  | 16 => ⟨S_, .f32⟩
  | 17 => ⟨S8x256, .f32⟩
  | 18 => ⟨S8x256x16x256, .f32⟩
  | 19 => ⟨S256, .i32⟩
  | 20 => ⟨S256x1, .i32⟩
  | 21 => ⟨S256, .i32⟩
  | 22 => ⟨S1x256, .i32⟩
  | 23 => ⟨S8x256x1, .f32⟩
  | 24 => ⟨S8x256, .f32⟩
  | 25 => ⟨S8x255, .f32⟩
  | 26 => ⟨S_, .f32⟩
  | 27 => ⟨S8x1, .f32⟩
  | 28 => ⟨S8x256, .f32⟩
  | 29 => ⟨S8x1x256, .f32⟩
  | 30 => ⟨S8x256x256, .f32⟩
  | 31 => ⟨S8x256x256, .f32⟩
  | 32 => ⟨S256x256, .i32⟩
  | 33 => ⟨S256x256, .i32⟩
  | 34 => ⟨S256x256, .i1⟩
  | 35 => ⟨S_, .i32⟩
  | 36 => ⟨S1x256, .i32⟩
  | 37 => ⟨S1x256, .i1⟩
  | 38 => ⟨S256x256, .i1⟩
  | 39 => ⟨S256x256, .i1⟩
  | 40 => ⟨S256, .i32⟩
  | 41 => ⟨S_, .i32⟩
  | 42 => ⟨S256, .i32⟩
  | 43 => ⟨S256, .i1⟩
  | 44 => ⟨S1x256x256, .i1⟩
  | 45 => ⟨S_, .f32⟩
  | 46 => ⟨S_, .f32⟩
  | 47 => ⟨S8x256x256, .i1⟩
  | 48 => ⟨S8x256x256, .f32⟩
  | 49 => ⟨S8x256x256, .f32⟩
  | 50 => ⟨S_, .f32⟩
  | 51 => ⟨S8x256, .f32⟩
  | 52 => ⟨S1x256, .i1⟩
  | 53 => ⟨S8x256x1, .f32⟩
  | 54 => ⟨S8x256, .f32⟩
  | 55 => ⟨S8x256, .i1⟩
  | 56 => ⟨S8x256, .f32⟩
  | 57 => ⟨S_, .i32⟩
  | 58 => ⟨S1, .i32⟩
  | 59 => ⟨S8x256x16, .f32⟩
  | 60 => ⟨S8x256x256, .f32⟩
  | 61 => ⟨S_, .f32⟩
  | 62 => ⟨S8x256, .f32⟩
  | 63 => ⟨S_, .f32⟩
  | 64 => ⟨S8x256, .f32⟩
  | 65 => ⟨S8x256, .f32⟩
  | 66 => ⟨S8x256x1, .f32⟩
  | 67 => ⟨S8x256x256, .f32⟩
  | 68 => ⟨S8x256x256, .f32⟩
  | 69 => ⟨S8x256x256, .f32⟩
  | 70 => ⟨S_, .f32⟩
  | 71 => ⟨S8x256, .f32⟩
  | 72 => ⟨S8x256x1, .f32⟩
  | 73 => ⟨S8x256x256, .f32⟩
  | 74 => ⟨S8x256x256, .f32⟩
  | 75 => ⟨S8x256x1x256, .f32⟩
  | 76 => ⟨S8x256x256, .f32⟩
  | 77 => ⟨S1x256x256, .i1⟩
  | 78 => ⟨S1x256x1, .i1⟩
  | 79 => ⟨S1x256x256, .i1⟩
  | 80 => ⟨S1x256x256, .i1⟩
  | 81 => ⟨S8x256x256, .i1⟩
  | 82 => ⟨S8x256x256, .f32⟩
  | 83 => ⟨S_, .i32⟩
  | 84 => ⟨S1, .i32⟩
  | 85 => ⟨S8x256x16x256, .f32⟩
  | 86 => ⟨S8x256x1, .f32⟩
  | 87 => ⟨S8x256, .f32⟩
  | 88 => ⟨S8x255, .f32⟩
  | 89 => ⟨S_, .f32⟩
  | 90 => ⟨S8x1, .f32⟩
  | 91 => ⟨S8x256, .f32⟩
  | 92 => ⟨S8x1x256, .f32⟩
  | 93 => ⟨S8x256x256, .f32⟩
  | 94 => ⟨S8x256x256, .f32⟩
  | 95 => ⟨S256x256, .i32⟩
  | 96 => ⟨S256x256, .i32⟩
  | 97 => ⟨S256x256, .i1⟩
  | 98 => ⟨S_, .i32⟩
  | 99 => ⟨S1x256, .i32⟩
  | 100 => ⟨S1x256, .i1⟩
  | 101 => ⟨S256x256, .i1⟩
  | 102 => ⟨S256x256, .i1⟩
  | 103 => ⟨S256, .i32⟩
  | 104 => ⟨S_, .i32⟩
  | 105 => ⟨S256, .i32⟩
  | 106 => ⟨S256, .i1⟩
  | 107 => ⟨S1x256x256, .i1⟩
  | 108 => ⟨S_, .f32⟩
  | 109 => ⟨S_, .f32⟩
  | 110 => ⟨S8x256x256, .i1⟩
  | 111 => ⟨S8x256x256, .f32⟩
  | 112 => ⟨S8x256x256, .f32⟩
  | 113 => ⟨S_, .f32⟩
  | 114 => ⟨S8x256, .f32⟩
  | 115 => ⟨S1x256, .i1⟩
  | 116 => ⟨S8x256x1, .f32⟩
  | 117 => ⟨S8x256, .f32⟩
  | 118 => ⟨S8x256, .i1⟩
  | 119 => ⟨S8x256, .f32⟩
  | 120 => ⟨S_, .i32⟩
  | 121 => ⟨S1, .i32⟩
  | 122 => ⟨S8x256x16, .f32⟩
  | 123 => ⟨S8x256x256, .f32⟩
  | 124 => ⟨S_, .f32⟩
  | 125 => ⟨S8x256, .f32⟩
  | 126 => ⟨S_, .f32⟩
  | 127 => ⟨S8x256, .f32⟩
  | _ => ⟨S8x256x256, .f32⟩

abbrev hbmTy0_1 (i : Nat) : BufTy := match i % 128 with
  | 0 => ⟨S8x256, .f32⟩
  | 1 => ⟨S8x256x1, .f32⟩
  | 2 => ⟨S8x256x256, .f32⟩
  | 3 => ⟨S8x256x256, .f32⟩
  | 4 => ⟨S8x256x256, .f32⟩
  | 5 => ⟨S_, .f32⟩
  | 6 => ⟨S8x256, .f32⟩
  | 7 => ⟨S8x256x1, .f32⟩
  | 8 => ⟨S8x256x256, .f32⟩
  | 9 => ⟨S8x256x256, .f32⟩
  | 10 => ⟨S8x256x1x256, .f32⟩
  | 11 => ⟨S8x256x256, .f32⟩
  | 12 => ⟨S1x256x256, .i1⟩
  | 13 => ⟨S1x256x1, .i1⟩
  | 14 => ⟨S1x256x256, .i1⟩
  | 15 => ⟨S1x256x256, .i1⟩
  | 16 => ⟨S8x256x256, .i1⟩
  | 17 => ⟨S8x256x256, .f32⟩
  | 18 => ⟨S_, .i32⟩
  | 19 => ⟨S1, .i32⟩
  | 20 => ⟨S8x256x16x256, .f32⟩
  | 21 => ⟨S8x256x1, .f32⟩
  | 22 => ⟨S8x256, .f32⟩
  | 23 => ⟨S8x255, .f32⟩
  | 24 => ⟨S_, .f32⟩
  | 25 => ⟨S8x1, .f32⟩
  | 26 => ⟨S8x256, .f32⟩
  | 27 => ⟨S8x1x256, .f32⟩
  | 28 => ⟨S8x256x256, .f32⟩
  | 29 => ⟨S8x256x256, .f32⟩
  | 30 => ⟨S256x256, .i32⟩
  | 31 => ⟨S256x256, .i32⟩
  | 32 => ⟨S256x256, .i1⟩
  | 33 => ⟨S_, .i32⟩
  | 34 => ⟨S1x256, .i32⟩
  | 35 => ⟨S1x256, .i1⟩
  | 36 => ⟨S256x256, .i1⟩
  | 37 => ⟨S256x256, .i1⟩
  | 38 => ⟨S256, .i32⟩
  | 39 => ⟨S_, .i32⟩
  | 40 => ⟨S256, .i32⟩
  | 41 => ⟨S256, .i1⟩
  | 42 => ⟨S1x256x256, .i1⟩
  | 43 => ⟨S_, .f32⟩
  | 44 => ⟨S_, .f32⟩
  | 45 => ⟨S8x256x256, .i1⟩
  | 46 => ⟨S8x256x256, .f32⟩
  | 47 => ⟨S8x256x256, .f32⟩
  | 48 => ⟨S_, .f32⟩
  | 49 => ⟨S8x256, .f32⟩
  | 50 => ⟨S1x256, .i1⟩
  | 51 => ⟨S8x256x1, .f32⟩
  | 52 => ⟨S8x256, .f32⟩
  | 53 => ⟨S8x256, .i1⟩
  | 54 => ⟨S8x256, .f32⟩
  | 55 => ⟨S_, .i32⟩
  | 56 => ⟨S1, .i32⟩
  | 57 => ⟨S8x256x16, .f32⟩
  | 58 => ⟨S8x256x256, .f32⟩
  | 59 => ⟨S_, .f32⟩
  | 60 => ⟨S8x256, .f32⟩
  | 61 => ⟨S_, .f32⟩
  | 62 => ⟨S8x256, .f32⟩
  | 63 => ⟨S8x256, .f32⟩
  | 64 => ⟨S8x256x1, .f32⟩
  | 65 => ⟨S8x256x256, .f32⟩
  | 66 => ⟨S8x256x256, .f32⟩
  | 67 => ⟨S8x256x256, .f32⟩
  | 68 => ⟨S_, .f32⟩
  | 69 => ⟨S8x256, .f32⟩
  | 70 => ⟨S8x256x1, .f32⟩
  | 71 => ⟨S8x256x256, .f32⟩
  | 72 => ⟨S8x256x256, .f32⟩
  | 73 => ⟨S8x256x1x256, .f32⟩
  | 74 => ⟨S8x256x256, .f32⟩
  | 75 => ⟨S1x256x256, .i1⟩
  | 76 => ⟨S1x256x1, .i1⟩
  | 77 => ⟨S1x256x256, .i1⟩
  | 78 => ⟨S1x256x256, .i1⟩
  | 79 => ⟨S8x256x256, .i1⟩
  | 80 => ⟨S8x256x256, .f32⟩
  | 81 => ⟨S_, .i32⟩
  | 82 => ⟨S1, .i32⟩
  | 83 => ⟨S8x256x16x256, .f32⟩
  | 84 => ⟨S8x256x1, .f32⟩
  | 85 => ⟨S8x256, .f32⟩
  | 86 => ⟨S8x255, .f32⟩
  | 87 => ⟨S_, .f32⟩
  | 88 => ⟨S8x1, .f32⟩
  | 89 => ⟨S8x256, .f32⟩
  | 90 => ⟨S8x1x256, .f32⟩
  | 91 => ⟨S8x256x256, .f32⟩
  | 92 => ⟨S8x256x256, .f32⟩
  | 93 => ⟨S256x256, .i32⟩
  | 94 => ⟨S256x256, .i32⟩
  | 95 => ⟨S256x256, .i1⟩
  | 96 => ⟨S_, .i32⟩
  | 97 => ⟨S1x256, .i32⟩
  | 98 => ⟨S1x256, .i1⟩
  | 99 => ⟨S256x256, .i1⟩
  | 100 => ⟨S256x256, .i1⟩
  | 101 => ⟨S256, .i32⟩
  | 102 => ⟨S_, .i32⟩
  | 103 => ⟨S256, .i32⟩
  | 104 => ⟨S256, .i1⟩
  | 105 => ⟨S1x256x256, .i1⟩
  | 106 => ⟨S_, .f32⟩
  | 107 => ⟨S_, .f32⟩
  | 108 => ⟨S8x256x256, .i1⟩
  | 109 => ⟨S8x256x256, .f32⟩
  | 110 => ⟨S8x256x256, .f32⟩
  | 111 => ⟨S_, .f32⟩
  | 112 => ⟨S8x256, .f32⟩
  | 113 => ⟨S1x256, .i1⟩
  | 114 => ⟨S8x256x1, .f32⟩
  | 115 => ⟨S8x256, .f32⟩
  | 116 => ⟨S8x256, .i1⟩
  | 117 => ⟨S8x256, .f32⟩
  | 118 => ⟨S_, .i32⟩
  | 119 => ⟨S1, .i32⟩
  | 120 => ⟨S8x256x16, .f32⟩
  | 121 => ⟨S8x256x256, .f32⟩
  | 122 => ⟨S_, .f32⟩
  | 123 => ⟨S8x256, .f32⟩
  | 124 => ⟨S_, .f32⟩
  | 125 => ⟨S8x256, .f32⟩
  | 126 => ⟨S8x256, .f32⟩
  | 127 => ⟨S8x256x1, .f32⟩
  | _ => ⟨S8x256x256, .f32⟩

abbrev hbmTy0_2 (i : Nat) : BufTy := match i % 128 with
  | 0 => ⟨S8x256x256, .f32⟩
  | 1 => ⟨S8x256x256, .f32⟩
  | 2 => ⟨S8x256x256, .f32⟩
  | 3 => ⟨S_, .f32⟩
  | 4 => ⟨S8x256, .f32⟩
  | 5 => ⟨S8x256x1, .f32⟩
  | 6 => ⟨S8x256x256, .f32⟩
  | 7 => ⟨S8x256x256, .f32⟩
  | 8 => ⟨S8x256x1x256, .f32⟩
  | 9 => ⟨S8x256x256, .f32⟩
  | 10 => ⟨S1x256x256, .i1⟩
  | 11 => ⟨S1x256x1, .i1⟩
  | 12 => ⟨S1x256x256, .i1⟩
  | 13 => ⟨S1x256x256, .i1⟩
  | 14 => ⟨S8x256x256, .i1⟩
  | 15 => ⟨S8x256x256, .f32⟩
  | 16 => ⟨S_, .i32⟩
  | 17 => ⟨S1, .i32⟩
  | 18 => ⟨S8x256x16x256, .f32⟩
  | 19 => ⟨S8x256x1, .f32⟩
  | 20 => ⟨S8x256, .f32⟩
  | 21 => ⟨S8x255, .f32⟩
  | 22 => ⟨S_, .f32⟩
  | 23 => ⟨S8x1, .f32⟩
  | 24 => ⟨S8x256, .f32⟩
  | 25 => ⟨S8x1x256, .f32⟩
  | 26 => ⟨S8x256x256, .f32⟩
  | 27 => ⟨S8x256x256, .f32⟩
  | 28 => ⟨S256x256, .i32⟩
  | 29 => ⟨S256x256, .i32⟩
  | 30 => ⟨S256x256, .i1⟩
  | 31 => ⟨S_, .i32⟩
  | 32 => ⟨S1x256, .i32⟩
  | 33 => ⟨S1x256, .i1⟩
  | 34 => ⟨S256x256, .i1⟩
  | 35 => ⟨S256x256, .i1⟩
  | 36 => ⟨S256, .i32⟩
  | 37 => ⟨S_, .i32⟩
  | 38 => ⟨S256, .i32⟩
  | 39 => ⟨S256, .i1⟩
  | 40 => ⟨S1x256x256, .i1⟩
  | 41 => ⟨S_, .f32⟩
  | 42 => ⟨S_, .f32⟩
  | 43 => ⟨S8x256x256, .i1⟩
  | 44 => ⟨S8x256x256, .f32⟩
  | 45 => ⟨S8x256x256, .f32⟩
  | 46 => ⟨S_, .f32⟩
  | 47 => ⟨S8x256, .f32⟩
  | 48 => ⟨S1x256, .i1⟩
  | 49 => ⟨S8x256x1, .f32⟩
  | 50 => ⟨S8x256, .f32⟩
  | 51 => ⟨S8x256, .i1⟩
  | 52 => ⟨S8x256, .f32⟩
  | 53 => ⟨S_, .i32⟩
  | 54 => ⟨S1, .i32⟩
  | 55 => ⟨S8x256x16, .f32⟩
  | 56 => ⟨S8x256x256, .f32⟩
  | 57 => ⟨S_, .f32⟩
  | 58 => ⟨S8x256, .f32⟩
  | 59 => ⟨S_, .f32⟩
  | 60 => ⟨S8x256, .f32⟩
  | 61 => ⟨S8x256, .f32⟩
  | 62 => ⟨S8x256x1, .f32⟩
  | 63 => ⟨S8x256x256, .f32⟩
  | 64 => ⟨S8x256x256, .f32⟩
  | 65 => ⟨S8x256x256, .f32⟩
  | 66 => ⟨S_, .f32⟩
  | 67 => ⟨S8x256, .f32⟩
  | 68 => ⟨S8x256x1, .f32⟩
  | 69 => ⟨S8x256x256, .f32⟩
  | 70 => ⟨S8x256x256, .f32⟩
  | 71 => ⟨S8x256x1x256, .f32⟩
  | 72 => ⟨S8x256x256, .f32⟩
  | 73 => ⟨S1x256x256, .i1⟩
  | 74 => ⟨S1x256x1, .i1⟩
  | 75 => ⟨S1x256x256, .i1⟩
  | 76 => ⟨S1x256x256, .i1⟩
  | 77 => ⟨S8x256x256, .i1⟩
  | 78 => ⟨S8x256x256, .f32⟩
  | 79 => ⟨S_, .i32⟩
  | 80 => ⟨S1, .i32⟩
  | 81 => ⟨S8x256x16x256, .f32⟩
  | 82 => ⟨S8x256x1, .f32⟩
  | 83 => ⟨S8x256, .f32⟩
  | 84 => ⟨S8x255, .f32⟩
  | 85 => ⟨S_, .f32⟩
  | 86 => ⟨S8x1, .f32⟩
  | 87 => ⟨S8x256, .f32⟩
  | 88 => ⟨S8x1x256, .f32⟩
  | 89 => ⟨S8x256x256, .f32⟩
  | 90 => ⟨S8x256x256, .f32⟩
  | 91 => ⟨S256x256, .i32⟩
  | 92 => ⟨S256x256, .i32⟩
  | 93 => ⟨S256x256, .i1⟩
  | 94 => ⟨S_, .i32⟩
  | 95 => ⟨S1x256, .i32⟩
  | 96 => ⟨S1x256, .i1⟩
  | 97 => ⟨S256x256, .i1⟩
  | 98 => ⟨S256x256, .i1⟩
  | 99 => ⟨S256, .i32⟩
  | 100 => ⟨S_, .i32⟩
  | 101 => ⟨S256, .i32⟩
  | 102 => ⟨S256, .i1⟩
  | 103 => ⟨S1x256x256, .i1⟩
  | 104 => ⟨S_, .f32⟩
  | 105 => ⟨S_, .f32⟩
  | 106 => ⟨S8x256x256, .i1⟩
  | 107 => ⟨S8x256x256, .f32⟩
  | 108 => ⟨S8x256x256, .f32⟩
  | 109 => ⟨S_, .f32⟩
  | 110 => ⟨S8x256, .f32⟩
  | 111 => ⟨S1x256, .i1⟩
  | 112 => ⟨S8x256x1, .f32⟩
  | 113 => ⟨S8x256, .f32⟩
  | 114 => ⟨S8x256, .i1⟩
  | 115 => ⟨S8x256, .f32⟩
  | 116 => ⟨S_, .i32⟩
  | 117 => ⟨S1, .i32⟩
  | 118 => ⟨S8x256x16, .f32⟩
  | 119 => ⟨S8x256x256, .f32⟩
  | 120 => ⟨S_, .f32⟩
  | 121 => ⟨S8x256, .f32⟩
  | 122 => ⟨S_, .f32⟩
  | 123 => ⟨S8x256, .f32⟩
  | 124 => ⟨S8x256, .f32⟩
  | 125 => ⟨S8x256x1, .f32⟩
  | 126 => ⟨S8x256x256, .f32⟩
  | 127 => ⟨S8x256x256, .f32⟩
  | _ => ⟨S8x256x256, .f32⟩

abbrev hbmTy0_3 (i : Nat) : BufTy := match i % 128 with
  | 0 => ⟨S8x256x256, .f32⟩
  | 1 => ⟨S_, .f32⟩
  | 2 => ⟨S8x256, .f32⟩
  | 3 => ⟨S8x256x1, .f32⟩
  | 4 => ⟨S8x256x256, .f32⟩
  | 5 => ⟨S8x256x256, .f32⟩
  | 6 => ⟨S8x256x1x256, .f32⟩
  | 7 => ⟨S8x256x256, .f32⟩
  | 8 => ⟨S1x256x256, .i1⟩
  | 9 => ⟨S1x256x1, .i1⟩
  | 10 => ⟨S1x256x256, .i1⟩
  | 11 => ⟨S1x256x256, .i1⟩
  | 12 => ⟨S8x256x256, .i1⟩
  | 13 => ⟨S8x256x256, .f32⟩
  | 14 => ⟨S_, .i32⟩
  | 15 => ⟨S1, .i32⟩
  | 16 => ⟨S8x256x16x256, .f32⟩
  | 17 => ⟨S8x256x1, .f32⟩
  | 18 => ⟨S8x256, .f32⟩
  | 19 => ⟨S8x255, .f32⟩
  | 20 => ⟨S_, .f32⟩
  | 21 => ⟨S8x1, .f32⟩
  | 22 => ⟨S8x256, .f32⟩
  | 23 => ⟨S8x1x256, .f32⟩
  | 24 => ⟨S8x256x256, .f32⟩
  | 25 => ⟨S8x256x256, .f32⟩
  | 26 => ⟨S256x256, .i32⟩
  | 27 => ⟨S256x256, .i32⟩
  | 28 => ⟨S256x256, .i1⟩
  | 29 => ⟨S_, .i32⟩
  | 30 => ⟨S1x256, .i32⟩
  | 31 => ⟨S1x256, .i1⟩
  | 32 => ⟨S256x256, .i1⟩
  | 33 => ⟨S256x256, .i1⟩
  | 34 => ⟨S256, .i32⟩
  | 35 => ⟨S_, .i32⟩
  | 36 => ⟨S256, .i32⟩
  | 37 => ⟨S256, .i1⟩
  | 38 => ⟨S1x256x256, .i1⟩
  | 39 => ⟨S_, .f32⟩
  | 40 => ⟨S_, .f32⟩
  | 41 => ⟨S8x256x256, .i1⟩
  | 42 => ⟨S8x256x256, .f32⟩
  | 43 => ⟨S8x256x256, .f32⟩
  | 44 => ⟨S_, .f32⟩
  | 45 => ⟨S8x256, .f32⟩
  | 46 => ⟨S1x256, .i1⟩
  | 47 => ⟨S8x256x1, .f32⟩
  | 48 => ⟨S8x256, .f32⟩
  | 49 => ⟨S8x256, .i1⟩
  | 50 => ⟨S8x256, .f32⟩
  | 51 => ⟨S_, .i32⟩
  | 52 => ⟨S1, .i32⟩
  | 53 => ⟨S8x256x16, .f32⟩
  | 54 => ⟨S8x256x256, .f32⟩
  | 55 => ⟨S_, .f32⟩
  | 56 => ⟨S8x256, .f32⟩
  | 57 => ⟨S_, .f32⟩
  | 58 => ⟨S8x256, .f32⟩
  | 59 => ⟨S8x256, .f32⟩
  | 60 => ⟨S8x256x1, .f32⟩
  | 61 => ⟨S8x256x256, .f32⟩
  | 62 => ⟨S8x256x256, .f32⟩
  | 63 => ⟨S8x256x256, .f32⟩
  | 64 => ⟨S_, .f32⟩
  | 65 => ⟨S8x256, .f32⟩
  | 66 => ⟨S8x256x1, .f32⟩
  | 67 => ⟨S8x256x256, .f32⟩
  | 68 => ⟨S8x256x256, .f32⟩
  | 69 => ⟨S8x256x1x256, .f32⟩
  | 70 => ⟨S8x256x256, .f32⟩
  | 71 => ⟨S1x256x256, .i1⟩
  | 72 => ⟨S1x256x1, .i1⟩
  | 73 => ⟨S1x256x256, .i1⟩
  | 74 => ⟨S1x256x256, .i1⟩
  | 75 => ⟨S8x256x256, .i1⟩
  | 76 => ⟨S8x256x256, .f32⟩
  | 77 => ⟨S_, .i32⟩
  | 78 => ⟨S1, .i32⟩
  | 79 => ⟨S8x256x16x256, .f32⟩
  | 80 => ⟨S8x256x1, .f32⟩
  | 81 => ⟨S8x256, .f32⟩
  | 82 => ⟨S8x255, .f32⟩
  | 83 => ⟨S_, .f32⟩
  | 84 => ⟨S8x1, .f32⟩
  | 85 => ⟨S8x256, .f32⟩
  | 86 => ⟨S8x1x256, .f32⟩
  | 87 => ⟨S8x256x256, .f32⟩
  | 88 => ⟨S8x256x256, .f32⟩
  | 89 => ⟨S256x256, .i32⟩
  | 90 => ⟨S256x256, .i32⟩
  | 91 => ⟨S256x256, .i1⟩
  | 92 => ⟨S_, .i32⟩
  | 93 => ⟨S1x256, .i32⟩
  | 94 => ⟨S1x256, .i1⟩
  | 95 => ⟨S256x256, .i1⟩
  | 96 => ⟨S256x256, .i1⟩
  | 97 => ⟨S256, .i32⟩
  | 98 => ⟨S_, .i32⟩
  | 99 => ⟨S256, .i32⟩
  | 100 => ⟨S256, .i1⟩
  | 101 => ⟨S1x256x256, .i1⟩
  | 102 => ⟨S_, .f32⟩
  | 103 => ⟨S_, .f32⟩
  | 104 => ⟨S8x256x256, .i1⟩
  | 105 => ⟨S8x256x256, .f32⟩
  | 106 => ⟨S8x256x256, .f32⟩
  | 107 => ⟨S_, .f32⟩
  | 108 => ⟨S8x256, .f32⟩
  | 109 => ⟨S1x256, .i1⟩
  | 110 => ⟨S8x256x1, .f32⟩
  | 111 => ⟨S8x256, .f32⟩
  | 112 => ⟨S8x256, .i1⟩
  | 113 => ⟨S8x256, .f32⟩
  | 114 => ⟨S_, .i32⟩
  | 115 => ⟨S1, .i32⟩
  | 116 => ⟨S8x256x16, .f32⟩
  | 117 => ⟨S8x256x256, .f32⟩
  | 118 => ⟨S_, .f32⟩
  | 119 => ⟨S8x256, .f32⟩
  | 120 => ⟨S_, .f32⟩
  | 121 => ⟨S8x256, .f32⟩
  | 122 => ⟨S8x256, .f32⟩
  | 123 => ⟨S8x256x1, .f32⟩
  | 124 => ⟨S8x256x256, .f32⟩
  | 125 => ⟨S8x256x256, .f32⟩
  | 126 => ⟨S8x256x256, .f32⟩
  | 127 => ⟨S_, .f32⟩
  | _ => ⟨S8x256x256, .f32⟩

abbrev hbmTy0_4 (i : Nat) : BufTy := match i % 128 with
  | 0 => ⟨S8x256, .f32⟩
  | 1 => ⟨S8x256x1, .f32⟩
  | 2 => ⟨S8x256x256, .f32⟩
  | 3 => ⟨S8x256x256, .f32⟩
  | 4 => ⟨S8x256x1x256, .f32⟩
  | 5 => ⟨S8x256x256, .f32⟩
  | 6 => ⟨S1x256x256, .i1⟩
  | 7 => ⟨S1x256x1, .i1⟩
  | 8 => ⟨S1x256x256, .i1⟩
  | 9 => ⟨S1x256x256, .i1⟩
  | 10 => ⟨S8x256x256, .i1⟩
  | 11 => ⟨S8x256x256, .f32⟩
  | 12 => ⟨S_, .i32⟩
  | 13 => ⟨S1, .i32⟩
  | 14 => ⟨S8x256x16x256, .f32⟩
  | 15 => ⟨S8x256x1, .f32⟩
  | 16 => ⟨S8x256, .f32⟩
  | 17 => ⟨S8x255, .f32⟩
  | 18 => ⟨S_, .f32⟩
  | 19 => ⟨S8x1, .f32⟩
  | 20 => ⟨S8x256, .f32⟩
  | 21 => ⟨S8x1x256, .f32⟩
  | 22 => ⟨S8x256x256, .f32⟩
  | 23 => ⟨S8x256x256, .f32⟩
  | 24 => ⟨S256x256, .i32⟩
  | 25 => ⟨S256x256, .i32⟩
  | 26 => ⟨S256x256, .i1⟩
  | 27 => ⟨S_, .i32⟩
  | 28 => ⟨S1x256, .i32⟩
  | 29 => ⟨S1x256, .i1⟩
  | 30 => ⟨S256x256, .i1⟩
  | 31 => ⟨S256x256, .i1⟩
  | 32 => ⟨S256, .i32⟩
  | 33 => ⟨S_, .i32⟩
  | 34 => ⟨S256, .i32⟩
  | 35 => ⟨S256, .i1⟩
  | 36 => ⟨S1x256x256, .i1⟩
  | 37 => ⟨S_, .f32⟩
  | 38 => ⟨S_, .f32⟩
  | 39 => ⟨S8x256x256, .i1⟩
  | 40 => ⟨S8x256x256, .f32⟩
  | 41 => ⟨S8x256x256, .f32⟩
  | 42 => ⟨S_, .f32⟩
  | 43 => ⟨S8x256, .f32⟩
  | 44 => ⟨S1x256, .i1⟩
  | 45 => ⟨S8x256x1, .f32⟩
  | 46 => ⟨S8x256, .f32⟩
  | 47 => ⟨S8x256, .i1⟩
  | 48 => ⟨S8x256, .f32⟩
  | 49 => ⟨S_, .i32⟩
  | 50 => ⟨S1, .i32⟩
  | 51 => ⟨S8x256x16, .f32⟩
  | 52 => ⟨S8x256x256, .f32⟩
  | 53 => ⟨S_, .f32⟩
  | 54 => ⟨S8x256, .f32⟩
  | 55 => ⟨S_, .f32⟩
  | 56 => ⟨S8x256, .f32⟩
  | 57 => ⟨S8x256, .f32⟩
  | 58 => ⟨S8x256x1, .f32⟩
  | 59 => ⟨S8x256x256, .f32⟩
  | 60 => ⟨S8x256x256, .f32⟩
  | 61 => ⟨S8x256x256, .f32⟩
  | 62 => ⟨S_, .f32⟩
  | 63 => ⟨S8x256, .f32⟩
  | 64 => ⟨S8x256x1, .f32⟩
  | 65 => ⟨S8x256x256, .f32⟩
  | 66 => ⟨S8x256x256, .f32⟩
  | 67 => ⟨S8x256x1x256, .f32⟩
  | 68 => ⟨S8x256x256, .f32⟩
  | 69 => ⟨S1x256x256, .i1⟩
  | 70 => ⟨S1x256x1, .i1⟩
  | 71 => ⟨S1x256x256, .i1⟩
  | 72 => ⟨S1x256x256, .i1⟩
  | 73 => ⟨S8x256x256, .i1⟩
  | 74 => ⟨S8x256x256, .f32⟩
  | 75 => ⟨S_, .i32⟩
  | 76 => ⟨S1, .i32⟩
  | 77 => ⟨S8x256x16x256, .f32⟩
  | 78 => ⟨S8x256x1, .f32⟩
  | 79 => ⟨S8x256, .f32⟩
  | 80 => ⟨S8x255, .f32⟩
  | 81 => ⟨S_, .f32⟩
  | 82 => ⟨S8x1, .f32⟩
  | 83 => ⟨S8x256, .f32⟩
  | 84 => ⟨S8x1x256, .f32⟩
  | 85 => ⟨S8x256x256, .f32⟩
  | 86 => ⟨S8x256x256, .f32⟩
  | 87 => ⟨S256x256, .i32⟩
  | 88 => ⟨S256x256, .i32⟩
  | 89 => ⟨S256x256, .i1⟩
  | 90 => ⟨S_, .i32⟩
  | 91 => ⟨S1x256, .i32⟩
  | 92 => ⟨S1x256, .i1⟩
  | 93 => ⟨S256x256, .i1⟩
  | 94 => ⟨S256x256, .i1⟩
  | 95 => ⟨S256, .i32⟩
  | 96 => ⟨S_, .i32⟩
  | 97 => ⟨S256, .i32⟩
  | 98 => ⟨S256, .i1⟩
  | 99 => ⟨S1x256x256, .i1⟩
  | 100 => ⟨S_, .f32⟩
  | 101 => ⟨S_, .f32⟩
  | 102 => ⟨S8x256x256, .i1⟩
  | 103 => ⟨S8x256x256, .f32⟩
  | 104 => ⟨S8x256x256, .f32⟩
  | 105 => ⟨S_, .f32⟩
  | 106 => ⟨S8x256, .f32⟩
  | 107 => ⟨S1x256, .i1⟩
  | 108 => ⟨S8x256x1, .f32⟩
  | 109 => ⟨S8x256, .f32⟩
  | 110 => ⟨S8x256, .i1⟩
  | 111 => ⟨S8x256, .f32⟩
  | 112 => ⟨S_, .i32⟩
  | 113 => ⟨S1, .i32⟩
  | 114 => ⟨S8x256x16, .f32⟩
  | 115 => ⟨S8x256x256, .f32⟩
  | 116 => ⟨S_, .f32⟩
  | 117 => ⟨S8x256, .f32⟩
  | 118 => ⟨S_, .f32⟩
  | 119 => ⟨S8x256, .f32⟩
  | 120 => ⟨S8x256, .f32⟩
  | 121 => ⟨S8x256x1, .f32⟩
  | 122 => ⟨S8x256x256, .f32⟩
  | 123 => ⟨S8x256x256, .f32⟩
  | 124 => ⟨S8x256x256, .f32⟩
  | 125 => ⟨S_, .f32⟩
  | 126 => ⟨S8x256, .f32⟩
  | 127 => ⟨S8x256x1, .f32⟩
  | _ => ⟨S8x256x256, .f32⟩

abbrev hbmTy0_5 (i : Nat) : BufTy := match i % 128 with
  | 0 => ⟨S8x256x256, .f32⟩
  | 1 => ⟨S8x256x256, .f32⟩
  | 2 => ⟨S8x256x1x256, .f32⟩
  | 3 => ⟨S8x256x256, .f32⟩
  | 4 => ⟨S1x256x256, .i1⟩
  | 5 => ⟨S1x256x1, .i1⟩
  | 6 => ⟨S1x256x256, .i1⟩
  | 7 => ⟨S1x256x256, .i1⟩
  | 8 => ⟨S8x256x256, .i1⟩
  | 9 => ⟨S8x256x256, .f32⟩
  | 10 => ⟨S_, .i32⟩
  | 11 => ⟨S1, .i32⟩
  | 12 => ⟨S8x256x16x256, .f32⟩
  | 13 => ⟨S8x256x1, .f32⟩
  | 14 => ⟨S8x256, .f32⟩
  | 15 => ⟨S8x255, .f32⟩
  | 16 => ⟨S_, .f32⟩
  | 17 => ⟨S8x1, .f32⟩
  | 18 => ⟨S8x256, .f32⟩
  | 19 => ⟨S8x1x256, .f32⟩
  | 20 => ⟨S8x256x256, .f32⟩
  | 21 => ⟨S8x256x256, .f32⟩
  | 22 => ⟨S256x256, .i32⟩
  | 23 => ⟨S256x256, .i32⟩
  | 24 => ⟨S256x256, .i1⟩
  | 25 => ⟨S_, .i32⟩
  | 26 => ⟨S1x256, .i32⟩
  | 27 => ⟨S1x256, .i1⟩
  | 28 => ⟨S256x256, .i1⟩
  | 29 => ⟨S256x256, .i1⟩
  | 30 => ⟨S256, .i32⟩
  | 31 => ⟨S_, .i32⟩
  | 32 => ⟨S256, .i32⟩
  | 33 => ⟨S256, .i1⟩
  | 34 => ⟨S1x256x256, .i1⟩
  | 35 => ⟨S_, .f32⟩
  | 36 => ⟨S_, .f32⟩
  | 37 => ⟨S8x256x256, .i1⟩
  | 38 => ⟨S8x256x256, .f32⟩
  | 39 => ⟨S8x256x256, .f32⟩
  | 40 => ⟨S_, .f32⟩
  | 41 => ⟨S8x256, .f32⟩
  | 42 => ⟨S1x256, .i1⟩
  | 43 => ⟨S8x256x1, .f32⟩
  | 44 => ⟨S8x256, .f32⟩
  | 45 => ⟨S8x256, .i1⟩
  | 46 => ⟨S8x256, .f32⟩
  | 47 => ⟨S_, .i32⟩
  | 48 => ⟨S1, .i32⟩
  | 49 => ⟨S8x256x16, .f32⟩
  | 50 => ⟨S8x256x256, .f32⟩
  | 51 => ⟨S_, .f32⟩
  | 52 => ⟨S8x256, .f32⟩
  | 53 => ⟨S_, .f32⟩
  | 54 => ⟨S8x256, .f32⟩
  | 55 => ⟨S8x256, .f32⟩
  | 56 => ⟨S8x256x1, .f32⟩
  | 57 => ⟨S8x256x256, .f32⟩
  | 58 => ⟨S8x256x256, .f32⟩
  | 59 => ⟨S8x256x256, .f32⟩
  | 60 => ⟨S_, .f32⟩
  | 61 => ⟨S8x256, .f32⟩
  | 62 => ⟨S8x256x1, .f32⟩
  | 63 => ⟨S8x256x256, .f32⟩
  | 64 => ⟨S8x256x256, .f32⟩
  | 65 => ⟨S8x256x1x256, .f32⟩
  | 66 => ⟨S8x256x256, .f32⟩
  | 67 => ⟨S1x256x256, .i1⟩
  | 68 => ⟨S1x256x1, .i1⟩
  | 69 => ⟨S1x256x256, .i1⟩
  | 70 => ⟨S1x256x256, .i1⟩
  | 71 => ⟨S8x256x256, .i1⟩
  | 72 => ⟨S8x256x256, .f32⟩
  | 73 => ⟨S_, .i32⟩
  | 74 => ⟨S1, .i32⟩
  | 75 => ⟨S8x256x16x256, .f32⟩
  | 76 => ⟨S8x256x1, .f32⟩
  | 77 => ⟨S8x256, .f32⟩
  | 78 => ⟨S8x255, .f32⟩
  | 79 => ⟨S_, .f32⟩
  | 80 => ⟨S8x1, .f32⟩
  | 81 => ⟨S8x256, .f32⟩
  | 82 => ⟨S8x1x256, .f32⟩
  | 83 => ⟨S8x256x256, .f32⟩
  | 84 => ⟨S8x256x256, .f32⟩
  | 85 => ⟨S256x256, .i32⟩
  | 86 => ⟨S256x256, .i32⟩
  | 87 => ⟨S256x256, .i1⟩
  | 88 => ⟨S_, .i32⟩
  | 89 => ⟨S1x256, .i32⟩
  | 90 => ⟨S1x256, .i1⟩
  | 91 => ⟨S256x256, .i1⟩
  | 92 => ⟨S256x256, .i1⟩
  | 93 => ⟨S256, .i32⟩
  | 94 => ⟨S_, .i32⟩
  | 95 => ⟨S256, .i32⟩
  | 96 => ⟨S256, .i1⟩
  | 97 => ⟨S1x256x256, .i1⟩
  | 98 => ⟨S_, .f32⟩
  | 99 => ⟨S_, .f32⟩
  | 100 => ⟨S8x256x256, .i1⟩
  | 101 => ⟨S8x256x256, .f32⟩
  | 102 => ⟨S8x256x256, .f32⟩
  | 103 => ⟨S_, .f32⟩
  | 104 => ⟨S8x256, .f32⟩
  | 105 => ⟨S1x256, .i1⟩
  | 106 => ⟨S8x256x1, .f32⟩
  | 107 => ⟨S8x256, .f32⟩
  | 108 => ⟨S8x256, .i1⟩
  | 109 => ⟨S8x256, .f32⟩
  | 110 => ⟨S_, .i32⟩
  | 111 => ⟨S1, .i32⟩
  | 112 => ⟨S8x256x16, .f32⟩
  | 113 => ⟨S8x256x256, .f32⟩
  | 114 => ⟨S_, .f32⟩
  | 115 => ⟨S8x256, .f32⟩
  | 116 => ⟨S_, .f32⟩
  | 117 => ⟨S8x256, .f32⟩
  | 118 => ⟨S8x256, .f32⟩
  | 119 => ⟨S8x256x1, .f32⟩
  | 120 => ⟨S8x256x256, .f32⟩
  | 121 => ⟨S8x256x256, .f32⟩
  | 122 => ⟨S8x256x256, .f32⟩
  | 123 => ⟨S_, .f32⟩
  | 124 => ⟨S8x256, .f32⟩
  | 125 => ⟨S8x256x1, .f32⟩
  | 126 => ⟨S8x256x256, .f32⟩
  | 127 => ⟨S8x256x256, .f32⟩
  | _ => ⟨S8x256x256, .f32⟩

abbrev hbmTy0_6 (i : Nat) : BufTy := match i % 128 with
  | 0 => ⟨S8x256x1x256, .f32⟩
  | 1 => ⟨S8x256x256, .f32⟩
  | 2 => ⟨S1x256x256, .i1⟩
  | 3 => ⟨S1x256x1, .i1⟩
  | 4 => ⟨S1x256x256, .i1⟩
  | 5 => ⟨S1x256x256, .i1⟩
  | 6 => ⟨S8x256x256, .i1⟩
  | 7 => ⟨S8x256x256, .f32⟩
  | 8 => ⟨S_, .i32⟩
  | 9 => ⟨S1, .i32⟩
  | 10 => ⟨S8x256x16x256, .f32⟩
  | 11 => ⟨S8x256x1, .f32⟩
  | 12 => ⟨S8x256, .f32⟩
  | 13 => ⟨S8x255, .f32⟩
  | 14 => ⟨S_, .f32⟩
  | 15 => ⟨S8x1, .f32⟩
  | 16 => ⟨S8x256, .f32⟩
  | 17 => ⟨S8x1x256, .f32⟩
  | 18 => ⟨S8x256x256, .f32⟩
  | 19 => ⟨S8x256x256, .f32⟩
  | 20 => ⟨S256x256, .i32⟩
  | 21 => ⟨S256x256, .i32⟩
  | 22 => ⟨S256x256, .i1⟩
  | 23 => ⟨S_, .i32⟩
  | 24 => ⟨S1x256, .i32⟩
  | 25 => ⟨S1x256, .i1⟩
  | 26 => ⟨S256x256, .i1⟩
  | 27 => ⟨S256x256, .i1⟩
  | 28 => ⟨S256, .i32⟩
  | 29 => ⟨S_, .i32⟩
  | 30 => ⟨S256, .i32⟩
  | 31 => ⟨S256, .i1⟩
  | 32 => ⟨S1x256x256, .i1⟩
  | 33 => ⟨S_, .f32⟩
  | 34 => ⟨S_, .f32⟩
  | 35 => ⟨S8x256x256, .i1⟩
  | 36 => ⟨S8x256x256, .f32⟩
  | 37 => ⟨S8x256x256, .f32⟩
  | 38 => ⟨S_, .f32⟩
  | 39 => ⟨S8x256, .f32⟩
  | 40 => ⟨S1x256, .i1⟩
  | 41 => ⟨S8x256x1, .f32⟩
  | 42 => ⟨S8x256, .f32⟩
  | 43 => ⟨S8x256, .i1⟩
  | 44 => ⟨S8x256, .f32⟩
  | 45 => ⟨S_, .i32⟩
  | 46 => ⟨S1, .i32⟩
  | 47 => ⟨S8x256x16, .f32⟩
  | 48 => ⟨S8x256x256, .f32⟩
  | 49 => ⟨S_, .f32⟩
  | 50 => ⟨S8x256, .f32⟩
  | 51 => ⟨S_, .f32⟩
  | 52 => ⟨S8x256, .f32⟩
  | 53 => ⟨S8x256, .f32⟩
  | 54 => ⟨S8x256x1, .f32⟩
  | 55 => ⟨S8x256x256, .f32⟩
  | 56 => ⟨S8x256x256, .f32⟩
  | 57 => ⟨S8x256x256, .f32⟩
  | 58 => ⟨S_, .f32⟩
  | 59 => ⟨S8x256, .f32⟩
  | 60 => ⟨S8x256x1, .f32⟩
  | 61 => ⟨S8x256x256, .f32⟩
  | 62 => ⟨S8x256x256, .f32⟩
  | 63 => ⟨S8x256x1x256, .f32⟩
  | 64 => ⟨S8x256x256, .f32⟩
  | 65 => ⟨S1x256x256, .i1⟩
  | 66 => ⟨S1x256x1, .i1⟩
  | 67 => ⟨S1x256x256, .i1⟩
  | 68 => ⟨S1x256x256, .i1⟩
  | 69 => ⟨S8x256x256, .i1⟩
  | 70 => ⟨S8x256x256, .f32⟩
  | 71 => ⟨S_, .i32⟩
  | 72 => ⟨S1, .i32⟩
  | 73 => ⟨S8x256x16x256, .f32⟩
  | 74 => ⟨S8x256x1, .f32⟩
  | 75 => ⟨S8x256, .f32⟩
  | 76 => ⟨S8x255, .f32⟩
  | 77 => ⟨S_, .f32⟩
  | 78 => ⟨S8x1, .f32⟩
  | 79 => ⟨S8x256, .f32⟩
  | 80 => ⟨S8x1x256, .f32⟩
  | 81 => ⟨S8x256x256, .f32⟩
  | 82 => ⟨S8x256x256, .f32⟩
  | 83 => ⟨S256x256, .i32⟩
  | 84 => ⟨S256x256, .i32⟩
  | 85 => ⟨S256x256, .i1⟩
  | 86 => ⟨S_, .i32⟩
  | 87 => ⟨S1x256, .i32⟩
  | 88 => ⟨S1x256, .i1⟩
  | 89 => ⟨S256x256, .i1⟩
  | 90 => ⟨S256x256, .i1⟩
  | 91 => ⟨S256, .i32⟩
  | 92 => ⟨S_, .i32⟩
  | 93 => ⟨S256, .i32⟩
  | 94 => ⟨S256, .i1⟩
  | 95 => ⟨S1x256x256, .i1⟩
  | 96 => ⟨S_, .f32⟩
  | 97 => ⟨S_, .f32⟩
  | 98 => ⟨S8x256x256, .i1⟩
  | 99 => ⟨S8x256x256, .f32⟩
  | 100 => ⟨S8x256x256, .f32⟩
  | 101 => ⟨S_, .f32⟩
  | 102 => ⟨S8x256, .f32⟩
  | 103 => ⟨S1x256, .i1⟩
  | 104 => ⟨S8x256x1, .f32⟩
  | 105 => ⟨S8x256, .f32⟩
  | 106 => ⟨S8x256, .i1⟩
  | 107 => ⟨S8x256, .f32⟩
  | 108 => ⟨S_, .i32⟩
  | 109 => ⟨S1, .i32⟩
  | 110 => ⟨S8x256x16, .f32⟩
  | 111 => ⟨S8x256x256, .f32⟩
  | 112 => ⟨S_, .f32⟩
  | 113 => ⟨S8x256, .f32⟩
  | 114 => ⟨S_, .f32⟩
  | 115 => ⟨S8x256, .f32⟩
  | 116 => ⟨S8x256, .f32⟩
  | 117 => ⟨S8x256x1, .f32⟩
  | 118 => ⟨S8x256x256, .f32⟩
  | 119 => ⟨S8x256x256, .f32⟩
  | 120 => ⟨S8x256x256, .f32⟩
  | 121 => ⟨S_, .f32⟩
  | 122 => ⟨S8x256, .f32⟩
  | 123 => ⟨S8x256x1, .f32⟩
  | 124 => ⟨S8x256x256, .f32⟩
  | 125 => ⟨S8x256x256, .f32⟩
  | 126 => ⟨S8x256x1x256, .f32⟩
  | 127 => ⟨S8x256x256, .f32⟩
  | _ => ⟨S8x256x256, .f32⟩

abbrev hbmTy0_7 (i : Nat) : BufTy := match i % 128 with
  | 0 => ⟨S1x256x256, .i1⟩
  | 1 => ⟨S1x256x1, .i1⟩
  | 2 => ⟨S1x256x256, .i1⟩
  | 3 => ⟨S1x256x256, .i1⟩
  | 4 => ⟨S8x256x256, .i1⟩
  | 5 => ⟨S8x256x256, .f32⟩
  | 6 => ⟨S_, .i32⟩
  | 7 => ⟨S1, .i32⟩
  | 8 => ⟨S8x256x16x256, .f32⟩
  | 9 => ⟨S8x256x1, .f32⟩
  | 10 => ⟨S8x256, .f32⟩
  | 11 => ⟨S8x255, .f32⟩
  | 12 => ⟨S_, .f32⟩
  | 13 => ⟨S8x1, .f32⟩
  | 14 => ⟨S8x256, .f32⟩
  | 15 => ⟨S8x1x256, .f32⟩
  | 16 => ⟨S8x256x256, .f32⟩
  | 17 => ⟨S8x256x256, .f32⟩
  | 18 => ⟨S256x256, .i32⟩
  | 19 => ⟨S256x256, .i32⟩
  | 20 => ⟨S256x256, .i1⟩
  | 21 => ⟨S_, .i32⟩
  | 22 => ⟨S1x256, .i32⟩
  | 23 => ⟨S1x256, .i1⟩
  | 24 => ⟨S256x256, .i1⟩
  | 25 => ⟨S256x256, .i1⟩
  | 26 => ⟨S256, .i32⟩
  | 27 => ⟨S_, .i32⟩
  | 28 => ⟨S256, .i32⟩
  | 29 => ⟨S256, .i1⟩
  | 30 => ⟨S1x256x256, .i1⟩
  | 31 => ⟨S_, .f32⟩
  | 32 => ⟨S_, .f32⟩
  | 33 => ⟨S8x256x256, .i1⟩
  | 34 => ⟨S8x256x256, .f32⟩
  | 35 => ⟨S8x256x256, .f32⟩
  | 36 => ⟨S_, .f32⟩
  | 37 => ⟨S8x256, .f32⟩
  | 38 => ⟨S1x256, .i1⟩
  | 39 => ⟨S8x256x1, .f32⟩
  | 40 => ⟨S8x256, .f32⟩
  | 41 => ⟨S8x256, .i1⟩
  | 42 => ⟨S8x256, .f32⟩
  | 43 => ⟨S_, .i32⟩
  | 44 => ⟨S1, .i32⟩
  | 45 => ⟨S8x256x16, .f32⟩
  | 46 => ⟨S8x256x256, .f32⟩
  | 47 => ⟨S_, .f32⟩
  | 48 => ⟨S8x256, .f32⟩
  | 49 => ⟨S_, .f32⟩
  | 50 => ⟨S8x256, .f32⟩
  | 51 => ⟨S8x256, .f32⟩
  | 52 => ⟨S8x256x1, .f32⟩
  | 53 => ⟨S8x256x256, .f32⟩
  | 54 => ⟨S8x256x256, .f32⟩
  | 55 => ⟨S8x256x256, .f32⟩
  | 56 => ⟨S_, .f32⟩
  | 57 => ⟨S8x256, .f32⟩
  | 58 => ⟨S8x256x1, .f32⟩
  | 59 => ⟨S8x256x256, .f32⟩
  | 60 => ⟨S8x256x256, .f32⟩
  | 61 => ⟨S8x256x1x256, .f32⟩
  | 62 => ⟨S8x256x256, .f32⟩
  | 63 => ⟨S1x256x256, .i1⟩
  | 64 => ⟨S1x256x1, .i1⟩
  | 65 => ⟨S1x256x256, .i1⟩
  | 66 => ⟨S1x256x256, .i1⟩
  | 67 => ⟨S8x256x256, .i1⟩
  | 68 => ⟨S8x256x256, .f32⟩
  | 69 => ⟨S_, .i32⟩
  | 70 => ⟨S1, .i32⟩
  | 71 => ⟨S8x256x16x256, .f32⟩
  | _ => ⟨S8x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x256x256, .f32⟩

abbrev bufTy : (tb : Table) → Fin (tcTables nBuf tb) → BufTy
  | .hbm, ⟨i, _⟩ => hbmTy i
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_v0 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call4_v0 : Ref sig .tc := ⟨.hbm, 118, rfl⟩
abbrev main_v88 : Ref sig .tc := ⟨.hbm, 119, rfl⟩
abbrev main_c_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_22 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_call5_v0 : Ref sig .tc := ⟨.hbm, 144, rfl⟩
abbrev main_v109 : Ref sig .tc := ⟨.hbm, 145, rfl⟩
abbrev main_c_23 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_24 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_25 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_c_26 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_27 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v131 : Ref sig .tc := ⟨.hbm, 175, rfl⟩
abbrev main_cst_28 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_call7_v0 : Ref sig .tc := ⟨.hbm, 181, rfl⟩
abbrev main_v136 : Ref sig .tc := ⟨.hbm, 182, rfl⟩
abbrev main_c_29 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_30 : Ref sig .tc := ⟨.hbm, 187, rfl⟩
abbrev main_v140 : Ref sig .tc := ⟨.hbm, 188, rfl⟩
abbrev main_cst_31 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_32 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_call8_v0 : Ref sig .tc := ⟨.hbm, 207, rfl⟩
abbrev main_v157 : Ref sig .tc := ⟨.hbm, 208, rfl⟩
abbrev main_c_33 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_34 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_35 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_c_36 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_37 : Ref sig .tc := ⟨.hbm, 234, rfl⟩
abbrev main_call9_v0 : Ref sig .tc := ⟨.hbm, 235, rfl⟩
abbrev main_call9_v1 : Ref sig .tc := ⟨.hbm, 236, rfl⟩
abbrev main_call9_v2 : Ref sig .tc := ⟨.hbm, 237, rfl⟩
abbrev main_v179 : Ref sig .tc := ⟨.hbm, 238, rfl⟩
abbrev main_cst_38 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_call10_v0 : Ref sig .tc := ⟨.hbm, 244, rfl⟩
abbrev main_v184 : Ref sig .tc := ⟨.hbm, 245, rfl⟩
abbrev main_c_39 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_cst_40 : Ref sig .tc := ⟨.hbm, 250, rfl⟩
abbrev main_v188 : Ref sig .tc := ⟨.hbm, 251, rfl⟩
abbrev main_cst_41 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_cst_42 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_call11_v0 : Ref sig .tc := ⟨.hbm, 270, rfl⟩
abbrev main_v205 : Ref sig .tc := ⟨.hbm, 271, rfl⟩
abbrev main_c_43 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_cst_44 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_c_45 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_c_46 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_cst_47 : Ref sig .tc := ⟨.hbm, 297, rfl⟩
abbrev main_call12_v0 : Ref sig .tc := ⟨.hbm, 298, rfl⟩
abbrev main_call12_v1 : Ref sig .tc := ⟨.hbm, 299, rfl⟩
abbrev main_call12_v2 : Ref sig .tc := ⟨.hbm, 300, rfl⟩
abbrev main_v227 : Ref sig .tc := ⟨.hbm, 301, rfl⟩
abbrev main_cst_48 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_call13_v0 : Ref sig .tc := ⟨.hbm, 307, rfl⟩
abbrev main_v232 : Ref sig .tc := ⟨.hbm, 308, rfl⟩
abbrev main_c_49 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_cst_50 : Ref sig .tc := ⟨.hbm, 313, rfl⟩
abbrev main_v236 : Ref sig .tc := ⟨.hbm, 314, rfl⟩
abbrev main_cst_51 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_cst_52 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_call14_v0 : Ref sig .tc := ⟨.hbm, 333, rfl⟩
abbrev main_v253 : Ref sig .tc := ⟨.hbm, 334, rfl⟩
abbrev main_c_53 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_cst_54 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_c_55 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_c_56 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_cst_57 : Ref sig .tc := ⟨.hbm, 360, rfl⟩
abbrev main_call15_v0 : Ref sig .tc := ⟨.hbm, 361, rfl⟩
abbrev main_call15_v1 : Ref sig .tc := ⟨.hbm, 362, rfl⟩
abbrev main_call15_v2 : Ref sig .tc := ⟨.hbm, 363, rfl⟩
abbrev main_v275 : Ref sig .tc := ⟨.hbm, 364, rfl⟩
abbrev main_cst_58 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_call16_v0 : Ref sig .tc := ⟨.hbm, 370, rfl⟩
abbrev main_v280 : Ref sig .tc := ⟨.hbm, 371, rfl⟩
abbrev main_c_59 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_cst_60 : Ref sig .tc := ⟨.hbm, 376, rfl⟩
abbrev main_v284 : Ref sig .tc := ⟨.hbm, 377, rfl⟩
abbrev main_cst_61 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_cst_62 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_call17_v0 : Ref sig .tc := ⟨.hbm, 396, rfl⟩
abbrev main_v301 : Ref sig .tc := ⟨.hbm, 397, rfl⟩
abbrev main_c_63 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_cst_64 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_c_65 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_c_66 : Ref sig .tc := ⟨.hbm, 419, rfl⟩
abbrev main_v320 : Ref sig .tc := ⟨.hbm, 420, rfl⟩
abbrev main_v321 : Ref sig .tc := ⟨.hbm, 421, rfl⟩
abbrev main_v322 : Ref sig .tc := ⟨.hbm, 422, rfl⟩
abbrev main_cst_67 : Ref sig .tc := ⟨.hbm, 423, rfl⟩
abbrev main_call18_v0 : Ref sig .tc := ⟨.hbm, 424, rfl⟩
abbrev main_call18_v1 : Ref sig .tc := ⟨.hbm, 425, rfl⟩
abbrev main_call18_v2 : Ref sig .tc := ⟨.hbm, 426, rfl⟩
abbrev main_v323 : Ref sig .tc := ⟨.hbm, 427, rfl⟩
abbrev main_cst_68 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_v327 : Ref sig .tc := ⟨.hbm, 432, rfl⟩
abbrev main_call19_v0 : Ref sig .tc := ⟨.hbm, 433, rfl⟩
abbrev main_v328 : Ref sig .tc := ⟨.hbm, 434, rfl⟩
abbrev main_c_69 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_cst_70 : Ref sig .tc := ⟨.hbm, 439, rfl⟩
abbrev main_v332 : Ref sig .tc := ⟨.hbm, 440, rfl⟩
abbrev main_cst_71 : Ref sig .tc := ⟨.hbm, 441, rfl⟩
abbrev main_v333 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_v337 : Ref sig .tc := ⟨.hbm, 446, rfl⟩
abbrev main_v338 : Ref sig .tc := ⟨.hbm, 447, rfl⟩
abbrev main_cst_72 : Ref sig .tc := ⟨.hbm, 448, rfl⟩
abbrev main_v339 : Ref sig .tc := ⟨.hbm, 449, rfl⟩
abbrev main_v340 : Ref sig .tc := ⟨.hbm, 450, rfl⟩
abbrev main_v341 : Ref sig .tc := ⟨.hbm, 451, rfl⟩
abbrev main_v342 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_call20_v0 : Ref sig .tc := ⟨.hbm, 459, rfl⟩
abbrev main_v349 : Ref sig .tc := ⟨.hbm, 460, rfl⟩
abbrev main_c_73 : Ref sig .tc := ⟨.hbm, 461, rfl⟩
abbrev main_v350 : Ref sig .tc := ⟨.hbm, 462, rfl⟩
abbrev main_v351 : Ref sig .tc := ⟨.hbm, 463, rfl⟩
abbrev main_v352 : Ref sig .tc := ⟨.hbm, 464, rfl⟩
abbrev main_v353 : Ref sig .tc := ⟨.hbm, 465, rfl⟩
abbrev main_v354 : Ref sig .tc := ⟨.hbm, 466, rfl⟩
abbrev main_cst_74 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_v362 : Ref sig .tc := ⟨.hbm, 475, rfl⟩
abbrev main_c_75 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_v366 : Ref sig .tc := ⟨.hbm, 480, rfl⟩
abbrev main_v367 : Ref sig .tc := ⟨.hbm, 481, rfl⟩
abbrev main_c_76 : Ref sig .tc := ⟨.hbm, 482, rfl⟩
abbrev main_v368 : Ref sig .tc := ⟨.hbm, 483, rfl⟩
abbrev main_v369 : Ref sig .tc := ⟨.hbm, 484, rfl⟩
abbrev main_v370 : Ref sig .tc := ⟨.hbm, 485, rfl⟩
abbrev main_cst_77 : Ref sig .tc := ⟨.hbm, 486, rfl⟩
abbrev main_call21_v0 : Ref sig .tc := ⟨.hbm, 487, rfl⟩
abbrev main_call21_v1 : Ref sig .tc := ⟨.hbm, 488, rfl⟩
abbrev main_call21_v2 : Ref sig .tc := ⟨.hbm, 489, rfl⟩
abbrev main_v371 : Ref sig .tc := ⟨.hbm, 490, rfl⟩
abbrev main_cst_78 : Ref sig .tc := ⟨.hbm, 491, rfl⟩
abbrev main_v372 : Ref sig .tc := ⟨.hbm, 492, rfl⟩
abbrev main_v373 : Ref sig .tc := ⟨.hbm, 493, rfl⟩
abbrev main_v374 : Ref sig .tc := ⟨.hbm, 494, rfl⟩
abbrev main_v375 : Ref sig .tc := ⟨.hbm, 495, rfl⟩
abbrev main_call22_v0 : Ref sig .tc := ⟨.hbm, 496, rfl⟩
abbrev main_v376 : Ref sig .tc := ⟨.hbm, 497, rfl⟩
abbrev main_c_79 : Ref sig .tc := ⟨.hbm, 498, rfl⟩
abbrev main_v377 : Ref sig .tc := ⟨.hbm, 499, rfl⟩
abbrev main_v378 : Ref sig .tc := ⟨.hbm, 500, rfl⟩
abbrev main_v379 : Ref sig .tc := ⟨.hbm, 501, rfl⟩
abbrev main_cst_80 : Ref sig .tc := ⟨.hbm, 502, rfl⟩
abbrev main_v380 : Ref sig .tc := ⟨.hbm, 503, rfl⟩
abbrev main_cst_81 : Ref sig .tc := ⟨.hbm, 504, rfl⟩
abbrev main_v381 : Ref sig .tc := ⟨.hbm, 505, rfl⟩
abbrev main_v382 : Ref sig .tc := ⟨.hbm, 506, rfl⟩
abbrev main_v383 : Ref sig .tc := ⟨.hbm, 507, rfl⟩
abbrev main_v384 : Ref sig .tc := ⟨.hbm, 508, rfl⟩
abbrev main_v385 : Ref sig .tc := ⟨.hbm, 509, rfl⟩
abbrev main_v386 : Ref sig .tc := ⟨.hbm, 510, rfl⟩
abbrev main_cst_82 : Ref sig .tc := ⟨.hbm, 511, rfl⟩
abbrev main_v387 : Ref sig .tc := ⟨.hbm, 512, rfl⟩
abbrev main_v388 : Ref sig .tc := ⟨.hbm, 513, rfl⟩
abbrev main_v389 : Ref sig .tc := ⟨.hbm, 514, rfl⟩
abbrev main_v390 : Ref sig .tc := ⟨.hbm, 515, rfl⟩
abbrev main_v391 : Ref sig .tc := ⟨.hbm, 516, rfl⟩
abbrev main_v392 : Ref sig .tc := ⟨.hbm, 517, rfl⟩
abbrev main_v393 : Ref sig .tc := ⟨.hbm, 518, rfl⟩
abbrev main_v394 : Ref sig .tc := ⟨.hbm, 519, rfl⟩
abbrev main_v395 : Ref sig .tc := ⟨.hbm, 520, rfl⟩
abbrev main_v396 : Ref sig .tc := ⟨.hbm, 521, rfl⟩
abbrev main_call23_v0 : Ref sig .tc := ⟨.hbm, 522, rfl⟩
abbrev main_v397 : Ref sig .tc := ⟨.hbm, 523, rfl⟩
abbrev main_c_83 : Ref sig .tc := ⟨.hbm, 524, rfl⟩
abbrev main_v398 : Ref sig .tc := ⟨.hbm, 525, rfl⟩
abbrev main_v399 : Ref sig .tc := ⟨.hbm, 526, rfl⟩
abbrev main_v400 : Ref sig .tc := ⟨.hbm, 527, rfl⟩
abbrev main_v401 : Ref sig .tc := ⟨.hbm, 528, rfl⟩
abbrev main_v402 : Ref sig .tc := ⟨.hbm, 529, rfl⟩
abbrev main_cst_84 : Ref sig .tc := ⟨.hbm, 530, rfl⟩
abbrev main_v403 : Ref sig .tc := ⟨.hbm, 531, rfl⟩
abbrev main_v404 : Ref sig .tc := ⟨.hbm, 532, rfl⟩
abbrev main_v405 : Ref sig .tc := ⟨.hbm, 533, rfl⟩
abbrev main_v406 : Ref sig .tc := ⟨.hbm, 534, rfl⟩
abbrev main_v407 : Ref sig .tc := ⟨.hbm, 535, rfl⟩
abbrev main_v408 : Ref sig .tc := ⟨.hbm, 536, rfl⟩
abbrev main_v409 : Ref sig .tc := ⟨.hbm, 537, rfl⟩
abbrev main_v410 : Ref sig .tc := ⟨.hbm, 538, rfl⟩
abbrev main_c_85 : Ref sig .tc := ⟨.hbm, 539, rfl⟩
abbrev main_v411 : Ref sig .tc := ⟨.hbm, 540, rfl⟩
abbrev main_v412 : Ref sig .tc := ⟨.hbm, 541, rfl⟩
abbrev main_v413 : Ref sig .tc := ⟨.hbm, 542, rfl⟩
abbrev main_v414 : Ref sig .tc := ⟨.hbm, 543, rfl⟩
abbrev main_v415 : Ref sig .tc := ⟨.hbm, 544, rfl⟩
abbrev main_c_86 : Ref sig .tc := ⟨.hbm, 545, rfl⟩
abbrev main_v416 : Ref sig .tc := ⟨.hbm, 546, rfl⟩
abbrev main_v417 : Ref sig .tc := ⟨.hbm, 547, rfl⟩
abbrev main_v418 : Ref sig .tc := ⟨.hbm, 548, rfl⟩
abbrev main_cst_87 : Ref sig .tc := ⟨.hbm, 549, rfl⟩
abbrev main_call24_v0 : Ref sig .tc := ⟨.hbm, 550, rfl⟩
abbrev main_call24_v1 : Ref sig .tc := ⟨.hbm, 551, rfl⟩
abbrev main_call24_v2 : Ref sig .tc := ⟨.hbm, 552, rfl⟩
abbrev main_v419 : Ref sig .tc := ⟨.hbm, 553, rfl⟩
abbrev main_cst_88 : Ref sig .tc := ⟨.hbm, 554, rfl⟩
abbrev main_v420 : Ref sig .tc := ⟨.hbm, 555, rfl⟩
abbrev main_v421 : Ref sig .tc := ⟨.hbm, 556, rfl⟩
abbrev main_v422 : Ref sig .tc := ⟨.hbm, 557, rfl⟩
abbrev main_v423 : Ref sig .tc := ⟨.hbm, 558, rfl⟩
abbrev main_call25_v0 : Ref sig .tc := ⟨.hbm, 559, rfl⟩
abbrev main_v424 : Ref sig .tc := ⟨.hbm, 560, rfl⟩
abbrev main_c_89 : Ref sig .tc := ⟨.hbm, 561, rfl⟩
abbrev main_v425 : Ref sig .tc := ⟨.hbm, 562, rfl⟩
abbrev main_v426 : Ref sig .tc := ⟨.hbm, 563, rfl⟩
abbrev main_v427 : Ref sig .tc := ⟨.hbm, 564, rfl⟩
abbrev main_cst_90 : Ref sig .tc := ⟨.hbm, 565, rfl⟩
abbrev main_v428 : Ref sig .tc := ⟨.hbm, 566, rfl⟩
abbrev main_cst_91 : Ref sig .tc := ⟨.hbm, 567, rfl⟩
abbrev main_v429 : Ref sig .tc := ⟨.hbm, 568, rfl⟩
abbrev main_v430 : Ref sig .tc := ⟨.hbm, 569, rfl⟩
abbrev main_v431 : Ref sig .tc := ⟨.hbm, 570, rfl⟩
abbrev main_v432 : Ref sig .tc := ⟨.hbm, 571, rfl⟩
abbrev main_v433 : Ref sig .tc := ⟨.hbm, 572, rfl⟩
abbrev main_v434 : Ref sig .tc := ⟨.hbm, 573, rfl⟩
abbrev main_cst_92 : Ref sig .tc := ⟨.hbm, 574, rfl⟩
abbrev main_v435 : Ref sig .tc := ⟨.hbm, 575, rfl⟩
abbrev main_v436 : Ref sig .tc := ⟨.hbm, 576, rfl⟩
abbrev main_v437 : Ref sig .tc := ⟨.hbm, 577, rfl⟩
abbrev main_v438 : Ref sig .tc := ⟨.hbm, 578, rfl⟩
abbrev main_v439 : Ref sig .tc := ⟨.hbm, 579, rfl⟩
abbrev main_v440 : Ref sig .tc := ⟨.hbm, 580, rfl⟩
abbrev main_v441 : Ref sig .tc := ⟨.hbm, 581, rfl⟩
abbrev main_v442 : Ref sig .tc := ⟨.hbm, 582, rfl⟩
abbrev main_v443 : Ref sig .tc := ⟨.hbm, 583, rfl⟩
abbrev main_v444 : Ref sig .tc := ⟨.hbm, 584, rfl⟩
abbrev main_call26_v0 : Ref sig .tc := ⟨.hbm, 585, rfl⟩
abbrev main_v445 : Ref sig .tc := ⟨.hbm, 586, rfl⟩
abbrev main_c_93 : Ref sig .tc := ⟨.hbm, 587, rfl⟩
abbrev main_v446 : Ref sig .tc := ⟨.hbm, 588, rfl⟩
abbrev main_v447 : Ref sig .tc := ⟨.hbm, 589, rfl⟩
abbrev main_v448 : Ref sig .tc := ⟨.hbm, 590, rfl⟩
abbrev main_v449 : Ref sig .tc := ⟨.hbm, 591, rfl⟩
abbrev main_v450 : Ref sig .tc := ⟨.hbm, 592, rfl⟩
abbrev main_cst_94 : Ref sig .tc := ⟨.hbm, 593, rfl⟩
abbrev main_v451 : Ref sig .tc := ⟨.hbm, 594, rfl⟩
abbrev main_v452 : Ref sig .tc := ⟨.hbm, 595, rfl⟩
abbrev main_v453 : Ref sig .tc := ⟨.hbm, 596, rfl⟩
abbrev main_v454 : Ref sig .tc := ⟨.hbm, 597, rfl⟩
abbrev main_v455 : Ref sig .tc := ⟨.hbm, 598, rfl⟩
abbrev main_v456 : Ref sig .tc := ⟨.hbm, 599, rfl⟩
abbrev main_v457 : Ref sig .tc := ⟨.hbm, 600, rfl⟩
abbrev main_v458 : Ref sig .tc := ⟨.hbm, 601, rfl⟩
abbrev main_c_95 : Ref sig .tc := ⟨.hbm, 602, rfl⟩
abbrev main_v459 : Ref sig .tc := ⟨.hbm, 603, rfl⟩
abbrev main_v460 : Ref sig .tc := ⟨.hbm, 604, rfl⟩
abbrev main_v461 : Ref sig .tc := ⟨.hbm, 605, rfl⟩
abbrev main_v462 : Ref sig .tc := ⟨.hbm, 606, rfl⟩
abbrev main_v463 : Ref sig .tc := ⟨.hbm, 607, rfl⟩
abbrev main_c_96 : Ref sig .tc := ⟨.hbm, 608, rfl⟩
abbrev main_v464 : Ref sig .tc := ⟨.hbm, 609, rfl⟩
abbrev main_v465 : Ref sig .tc := ⟨.hbm, 610, rfl⟩
abbrev main_v466 : Ref sig .tc := ⟨.hbm, 611, rfl⟩
abbrev main_cst_97 : Ref sig .tc := ⟨.hbm, 612, rfl⟩
abbrev main_call27_v0 : Ref sig .tc := ⟨.hbm, 613, rfl⟩
abbrev main_call27_v1 : Ref sig .tc := ⟨.hbm, 614, rfl⟩
abbrev main_call27_v2 : Ref sig .tc := ⟨.hbm, 615, rfl⟩
abbrev main_v467 : Ref sig .tc := ⟨.hbm, 616, rfl⟩
abbrev main_cst_98 : Ref sig .tc := ⟨.hbm, 617, rfl⟩
abbrev main_v468 : Ref sig .tc := ⟨.hbm, 618, rfl⟩
abbrev main_v469 : Ref sig .tc := ⟨.hbm, 619, rfl⟩
abbrev main_v470 : Ref sig .tc := ⟨.hbm, 620, rfl⟩
abbrev main_v471 : Ref sig .tc := ⟨.hbm, 621, rfl⟩
abbrev main_call28_v0 : Ref sig .tc := ⟨.hbm, 622, rfl⟩
abbrev main_v472 : Ref sig .tc := ⟨.hbm, 623, rfl⟩
abbrev main_c_99 : Ref sig .tc := ⟨.hbm, 624, rfl⟩
abbrev main_v473 : Ref sig .tc := ⟨.hbm, 625, rfl⟩
abbrev main_v474 : Ref sig .tc := ⟨.hbm, 626, rfl⟩
abbrev main_v475 : Ref sig .tc := ⟨.hbm, 627, rfl⟩
abbrev main_cst_100 : Ref sig .tc := ⟨.hbm, 628, rfl⟩
abbrev main_v476 : Ref sig .tc := ⟨.hbm, 629, rfl⟩
abbrev main_cst_101 : Ref sig .tc := ⟨.hbm, 630, rfl⟩
abbrev main_v477 : Ref sig .tc := ⟨.hbm, 631, rfl⟩
abbrev main_v478 : Ref sig .tc := ⟨.hbm, 632, rfl⟩
abbrev main_v479 : Ref sig .tc := ⟨.hbm, 633, rfl⟩
abbrev main_v480 : Ref sig .tc := ⟨.hbm, 634, rfl⟩
abbrev main_v481 : Ref sig .tc := ⟨.hbm, 635, rfl⟩
abbrev main_v482 : Ref sig .tc := ⟨.hbm, 636, rfl⟩
abbrev main_cst_102 : Ref sig .tc := ⟨.hbm, 637, rfl⟩
abbrev main_v483 : Ref sig .tc := ⟨.hbm, 638, rfl⟩
abbrev main_v484 : Ref sig .tc := ⟨.hbm, 639, rfl⟩
abbrev main_v485 : Ref sig .tc := ⟨.hbm, 640, rfl⟩
abbrev main_v486 : Ref sig .tc := ⟨.hbm, 641, rfl⟩
abbrev main_v487 : Ref sig .tc := ⟨.hbm, 642, rfl⟩
abbrev main_v488 : Ref sig .tc := ⟨.hbm, 643, rfl⟩
abbrev main_v489 : Ref sig .tc := ⟨.hbm, 644, rfl⟩
abbrev main_v490 : Ref sig .tc := ⟨.hbm, 645, rfl⟩
abbrev main_v491 : Ref sig .tc := ⟨.hbm, 646, rfl⟩
abbrev main_v492 : Ref sig .tc := ⟨.hbm, 647, rfl⟩
abbrev main_call29_v0 : Ref sig .tc := ⟨.hbm, 648, rfl⟩
abbrev main_v493 : Ref sig .tc := ⟨.hbm, 649, rfl⟩
abbrev main_c_103 : Ref sig .tc := ⟨.hbm, 650, rfl⟩
abbrev main_v494 : Ref sig .tc := ⟨.hbm, 651, rfl⟩
abbrev main_v495 : Ref sig .tc := ⟨.hbm, 652, rfl⟩
abbrev main_v496 : Ref sig .tc := ⟨.hbm, 653, rfl⟩
abbrev main_v497 : Ref sig .tc := ⟨.hbm, 654, rfl⟩
abbrev main_v498 : Ref sig .tc := ⟨.hbm, 655, rfl⟩
abbrev main_cst_104 : Ref sig .tc := ⟨.hbm, 656, rfl⟩
abbrev main_v499 : Ref sig .tc := ⟨.hbm, 657, rfl⟩
abbrev main_v500 : Ref sig .tc := ⟨.hbm, 658, rfl⟩
abbrev main_v501 : Ref sig .tc := ⟨.hbm, 659, rfl⟩
abbrev main_v502 : Ref sig .tc := ⟨.hbm, 660, rfl⟩
abbrev main_v503 : Ref sig .tc := ⟨.hbm, 661, rfl⟩
abbrev main_v504 : Ref sig .tc := ⟨.hbm, 662, rfl⟩
abbrev main_v505 : Ref sig .tc := ⟨.hbm, 663, rfl⟩
abbrev main_v506 : Ref sig .tc := ⟨.hbm, 664, rfl⟩
abbrev main_c_105 : Ref sig .tc := ⟨.hbm, 665, rfl⟩
abbrev main_v507 : Ref sig .tc := ⟨.hbm, 666, rfl⟩
abbrev main_v508 : Ref sig .tc := ⟨.hbm, 667, rfl⟩
abbrev main_v509 : Ref sig .tc := ⟨.hbm, 668, rfl⟩
abbrev main_v510 : Ref sig .tc := ⟨.hbm, 669, rfl⟩
abbrev main_v511 : Ref sig .tc := ⟨.hbm, 670, rfl⟩
abbrev main_c_106 : Ref sig .tc := ⟨.hbm, 671, rfl⟩
abbrev main_v512 : Ref sig .tc := ⟨.hbm, 672, rfl⟩
abbrev main_v513 : Ref sig .tc := ⟨.hbm, 673, rfl⟩
abbrev main_v514 : Ref sig .tc := ⟨.hbm, 674, rfl⟩
abbrev main_cst_107 : Ref sig .tc := ⟨.hbm, 675, rfl⟩
abbrev main_call30_v0 : Ref sig .tc := ⟨.hbm, 676, rfl⟩
abbrev main_call30_v1 : Ref sig .tc := ⟨.hbm, 677, rfl⟩
abbrev main_call30_v2 : Ref sig .tc := ⟨.hbm, 678, rfl⟩
abbrev main_v515 : Ref sig .tc := ⟨.hbm, 679, rfl⟩
abbrev main_cst_108 : Ref sig .tc := ⟨.hbm, 680, rfl⟩
abbrev main_v516 : Ref sig .tc := ⟨.hbm, 681, rfl⟩
abbrev main_v517 : Ref sig .tc := ⟨.hbm, 682, rfl⟩
abbrev main_v518 : Ref sig .tc := ⟨.hbm, 683, rfl⟩
abbrev main_v519 : Ref sig .tc := ⟨.hbm, 684, rfl⟩
abbrev main_call31_v0 : Ref sig .tc := ⟨.hbm, 685, rfl⟩
abbrev main_v520 : Ref sig .tc := ⟨.hbm, 686, rfl⟩
abbrev main_c_109 : Ref sig .tc := ⟨.hbm, 687, rfl⟩
abbrev main_v521 : Ref sig .tc := ⟨.hbm, 688, rfl⟩
abbrev main_v522 : Ref sig .tc := ⟨.hbm, 689, rfl⟩
abbrev main_v523 : Ref sig .tc := ⟨.hbm, 690, rfl⟩
abbrev main_cst_110 : Ref sig .tc := ⟨.hbm, 691, rfl⟩
abbrev main_v524 : Ref sig .tc := ⟨.hbm, 692, rfl⟩
abbrev main_cst_111 : Ref sig .tc := ⟨.hbm, 693, rfl⟩
abbrev main_v525 : Ref sig .tc := ⟨.hbm, 694, rfl⟩
abbrev main_v526 : Ref sig .tc := ⟨.hbm, 695, rfl⟩
abbrev main_v527 : Ref sig .tc := ⟨.hbm, 696, rfl⟩
abbrev main_v528 : Ref sig .tc := ⟨.hbm, 697, rfl⟩
abbrev main_v529 : Ref sig .tc := ⟨.hbm, 698, rfl⟩
abbrev main_v530 : Ref sig .tc := ⟨.hbm, 699, rfl⟩
abbrev main_cst_112 : Ref sig .tc := ⟨.hbm, 700, rfl⟩
abbrev main_v531 : Ref sig .tc := ⟨.hbm, 701, rfl⟩
abbrev main_v532 : Ref sig .tc := ⟨.hbm, 702, rfl⟩
abbrev main_v533 : Ref sig .tc := ⟨.hbm, 703, rfl⟩
abbrev main_v534 : Ref sig .tc := ⟨.hbm, 704, rfl⟩
abbrev main_v535 : Ref sig .tc := ⟨.hbm, 705, rfl⟩
abbrev main_v536 : Ref sig .tc := ⟨.hbm, 706, rfl⟩
abbrev main_v537 : Ref sig .tc := ⟨.hbm, 707, rfl⟩
abbrev main_v538 : Ref sig .tc := ⟨.hbm, 708, rfl⟩
abbrev main_v539 : Ref sig .tc := ⟨.hbm, 709, rfl⟩
abbrev main_v540 : Ref sig .tc := ⟨.hbm, 710, rfl⟩
abbrev main_call32_v0 : Ref sig .tc := ⟨.hbm, 711, rfl⟩
abbrev main_v541 : Ref sig .tc := ⟨.hbm, 712, rfl⟩
abbrev main_c_113 : Ref sig .tc := ⟨.hbm, 713, rfl⟩
abbrev main_v542 : Ref sig .tc := ⟨.hbm, 714, rfl⟩
abbrev main_v543 : Ref sig .tc := ⟨.hbm, 715, rfl⟩
abbrev main_v544 : Ref sig .tc := ⟨.hbm, 716, rfl⟩
abbrev main_v545 : Ref sig .tc := ⟨.hbm, 717, rfl⟩
abbrev main_v546 : Ref sig .tc := ⟨.hbm, 718, rfl⟩
abbrev main_cst_114 : Ref sig .tc := ⟨.hbm, 719, rfl⟩
abbrev main_v547 : Ref sig .tc := ⟨.hbm, 720, rfl⟩
abbrev main_v548 : Ref sig .tc := ⟨.hbm, 721, rfl⟩
abbrev main_v549 : Ref sig .tc := ⟨.hbm, 722, rfl⟩
abbrev main_v550 : Ref sig .tc := ⟨.hbm, 723, rfl⟩
abbrev main_v551 : Ref sig .tc := ⟨.hbm, 724, rfl⟩
abbrev main_v552 : Ref sig .tc := ⟨.hbm, 725, rfl⟩
abbrev main_v553 : Ref sig .tc := ⟨.hbm, 726, rfl⟩
abbrev main_v554 : Ref sig .tc := ⟨.hbm, 727, rfl⟩
abbrev main_c_115 : Ref sig .tc := ⟨.hbm, 728, rfl⟩
abbrev main_v555 : Ref sig .tc := ⟨.hbm, 729, rfl⟩
abbrev main_v556 : Ref sig .tc := ⟨.hbm, 730, rfl⟩
abbrev main_v557 : Ref sig .tc := ⟨.hbm, 731, rfl⟩
abbrev main_v558 : Ref sig .tc := ⟨.hbm, 732, rfl⟩
abbrev main_v559 : Ref sig .tc := ⟨.hbm, 733, rfl⟩
abbrev main_c_116 : Ref sig .tc := ⟨.hbm, 734, rfl⟩
abbrev main_v560 : Ref sig .tc := ⟨.hbm, 735, rfl⟩
abbrev main_v561 : Ref sig .tc := ⟨.hbm, 736, rfl⟩
abbrev main_v562 : Ref sig .tc := ⟨.hbm, 737, rfl⟩
abbrev main_cst_117 : Ref sig .tc := ⟨.hbm, 738, rfl⟩
abbrev main_call33_v0 : Ref sig .tc := ⟨.hbm, 739, rfl⟩
abbrev main_call33_v1 : Ref sig .tc := ⟨.hbm, 740, rfl⟩
abbrev main_call33_v2 : Ref sig .tc := ⟨.hbm, 741, rfl⟩
abbrev main_v563 : Ref sig .tc := ⟨.hbm, 742, rfl⟩
abbrev main_cst_118 : Ref sig .tc := ⟨.hbm, 743, rfl⟩
abbrev main_v564 : Ref sig .tc := ⟨.hbm, 744, rfl⟩
abbrev main_v565 : Ref sig .tc := ⟨.hbm, 745, rfl⟩
abbrev main_v566 : Ref sig .tc := ⟨.hbm, 746, rfl⟩
abbrev main_v567 : Ref sig .tc := ⟨.hbm, 747, rfl⟩
abbrev main_call34_v0 : Ref sig .tc := ⟨.hbm, 748, rfl⟩
abbrev main_v568 : Ref sig .tc := ⟨.hbm, 749, rfl⟩
abbrev main_c_119 : Ref sig .tc := ⟨.hbm, 750, rfl⟩
abbrev main_v569 : Ref sig .tc := ⟨.hbm, 751, rfl⟩
abbrev main_v570 : Ref sig .tc := ⟨.hbm, 752, rfl⟩
abbrev main_v571 : Ref sig .tc := ⟨.hbm, 753, rfl⟩
abbrev main_cst_120 : Ref sig .tc := ⟨.hbm, 754, rfl⟩
abbrev main_v572 : Ref sig .tc := ⟨.hbm, 755, rfl⟩
abbrev main_cst_121 : Ref sig .tc := ⟨.hbm, 756, rfl⟩
abbrev main_v573 : Ref sig .tc := ⟨.hbm, 757, rfl⟩
abbrev main_v574 : Ref sig .tc := ⟨.hbm, 758, rfl⟩
abbrev main_v575 : Ref sig .tc := ⟨.hbm, 759, rfl⟩
abbrev main_v576 : Ref sig .tc := ⟨.hbm, 760, rfl⟩
abbrev main_v577 : Ref sig .tc := ⟨.hbm, 761, rfl⟩
abbrev main_v578 : Ref sig .tc := ⟨.hbm, 762, rfl⟩
abbrev main_cst_122 : Ref sig .tc := ⟨.hbm, 763, rfl⟩
abbrev main_v579 : Ref sig .tc := ⟨.hbm, 764, rfl⟩
abbrev main_v580 : Ref sig .tc := ⟨.hbm, 765, rfl⟩
abbrev main_v581 : Ref sig .tc := ⟨.hbm, 766, rfl⟩
abbrev main_v582 : Ref sig .tc := ⟨.hbm, 767, rfl⟩
abbrev main_v583 : Ref sig .tc := ⟨.hbm, 768, rfl⟩
abbrev main_v584 : Ref sig .tc := ⟨.hbm, 769, rfl⟩
abbrev main_v585 : Ref sig .tc := ⟨.hbm, 770, rfl⟩
abbrev main_v586 : Ref sig .tc := ⟨.hbm, 771, rfl⟩
abbrev main_v587 : Ref sig .tc := ⟨.hbm, 772, rfl⟩
abbrev main_v588 : Ref sig .tc := ⟨.hbm, 773, rfl⟩
abbrev main_call35_v0 : Ref sig .tc := ⟨.hbm, 774, rfl⟩
abbrev main_v589 : Ref sig .tc := ⟨.hbm, 775, rfl⟩
abbrev main_c_123 : Ref sig .tc := ⟨.hbm, 776, rfl⟩
abbrev main_v590 : Ref sig .tc := ⟨.hbm, 777, rfl⟩
abbrev main_v591 : Ref sig .tc := ⟨.hbm, 778, rfl⟩
abbrev main_v592 : Ref sig .tc := ⟨.hbm, 779, rfl⟩
abbrev main_v593 : Ref sig .tc := ⟨.hbm, 780, rfl⟩
abbrev main_v594 : Ref sig .tc := ⟨.hbm, 781, rfl⟩
abbrev main_cst_124 : Ref sig .tc := ⟨.hbm, 782, rfl⟩
abbrev main_v595 : Ref sig .tc := ⟨.hbm, 783, rfl⟩
abbrev main_v596 : Ref sig .tc := ⟨.hbm, 784, rfl⟩
abbrev main_v597 : Ref sig .tc := ⟨.hbm, 785, rfl⟩
abbrev main_v598 : Ref sig .tc := ⟨.hbm, 786, rfl⟩
abbrev main_v599 : Ref sig .tc := ⟨.hbm, 787, rfl⟩
abbrev main_v600 : Ref sig .tc := ⟨.hbm, 788, rfl⟩
abbrev main_v601 : Ref sig .tc := ⟨.hbm, 789, rfl⟩
abbrev main_v602 : Ref sig .tc := ⟨.hbm, 790, rfl⟩
abbrev main_c_125 : Ref sig .tc := ⟨.hbm, 791, rfl⟩
abbrev main_v603 : Ref sig .tc := ⟨.hbm, 792, rfl⟩
abbrev main_v604 : Ref sig .tc := ⟨.hbm, 793, rfl⟩
abbrev main_v605 : Ref sig .tc := ⟨.hbm, 794, rfl⟩
abbrev main_v606 : Ref sig .tc := ⟨.hbm, 795, rfl⟩
abbrev main_v607 : Ref sig .tc := ⟨.hbm, 796, rfl⟩
abbrev main_c_126 : Ref sig .tc := ⟨.hbm, 797, rfl⟩
abbrev main_v608 : Ref sig .tc := ⟨.hbm, 798, rfl⟩
abbrev main_v609 : Ref sig .tc := ⟨.hbm, 799, rfl⟩
abbrev main_v610 : Ref sig .tc := ⟨.hbm, 800, rfl⟩
abbrev main_cst_127 : Ref sig .tc := ⟨.hbm, 801, rfl⟩
abbrev main_call36_v0 : Ref sig .tc := ⟨.hbm, 802, rfl⟩
abbrev main_call36_v1 : Ref sig .tc := ⟨.hbm, 803, rfl⟩
abbrev main_call36_v2 : Ref sig .tc := ⟨.hbm, 804, rfl⟩
abbrev main_v611 : Ref sig .tc := ⟨.hbm, 805, rfl⟩
abbrev main_cst_128 : Ref sig .tc := ⟨.hbm, 806, rfl⟩
abbrev main_v612 : Ref sig .tc := ⟨.hbm, 807, rfl⟩
abbrev main_v613 : Ref sig .tc := ⟨.hbm, 808, rfl⟩
abbrev main_v614 : Ref sig .tc := ⟨.hbm, 809, rfl⟩
abbrev main_v615 : Ref sig .tc := ⟨.hbm, 810, rfl⟩
abbrev main_call37_v0 : Ref sig .tc := ⟨.hbm, 811, rfl⟩
abbrev main_v616 : Ref sig .tc := ⟨.hbm, 812, rfl⟩
abbrev main_c_129 : Ref sig .tc := ⟨.hbm, 813, rfl⟩
abbrev main_v617 : Ref sig .tc := ⟨.hbm, 814, rfl⟩
abbrev main_v618 : Ref sig .tc := ⟨.hbm, 815, rfl⟩
abbrev main_v619 : Ref sig .tc := ⟨.hbm, 816, rfl⟩
abbrev main_cst_130 : Ref sig .tc := ⟨.hbm, 817, rfl⟩
abbrev main_v620 : Ref sig .tc := ⟨.hbm, 818, rfl⟩
abbrev main_cst_131 : Ref sig .tc := ⟨.hbm, 819, rfl⟩
abbrev main_v621 : Ref sig .tc := ⟨.hbm, 820, rfl⟩
abbrev main_v622 : Ref sig .tc := ⟨.hbm, 821, rfl⟩
abbrev main_v623 : Ref sig .tc := ⟨.hbm, 822, rfl⟩
abbrev main_v624 : Ref sig .tc := ⟨.hbm, 823, rfl⟩
abbrev main_v625 : Ref sig .tc := ⟨.hbm, 824, rfl⟩
abbrev main_v626 : Ref sig .tc := ⟨.hbm, 825, rfl⟩
abbrev main_cst_132 : Ref sig .tc := ⟨.hbm, 826, rfl⟩
abbrev main_v627 : Ref sig .tc := ⟨.hbm, 827, rfl⟩
abbrev main_v628 : Ref sig .tc := ⟨.hbm, 828, rfl⟩
abbrev main_v629 : Ref sig .tc := ⟨.hbm, 829, rfl⟩
abbrev main_v630 : Ref sig .tc := ⟨.hbm, 830, rfl⟩
abbrev main_v631 : Ref sig .tc := ⟨.hbm, 831, rfl⟩
abbrev main_v632 : Ref sig .tc := ⟨.hbm, 832, rfl⟩
abbrev main_v633 : Ref sig .tc := ⟨.hbm, 833, rfl⟩
abbrev main_v634 : Ref sig .tc := ⟨.hbm, 834, rfl⟩
abbrev main_v635 : Ref sig .tc := ⟨.hbm, 835, rfl⟩
abbrev main_v636 : Ref sig .tc := ⟨.hbm, 836, rfl⟩
abbrev main_call38_v0 : Ref sig .tc := ⟨.hbm, 837, rfl⟩
abbrev main_v637 : Ref sig .tc := ⟨.hbm, 838, rfl⟩
abbrev main_c_133 : Ref sig .tc := ⟨.hbm, 839, rfl⟩
abbrev main_v638 : Ref sig .tc := ⟨.hbm, 840, rfl⟩
abbrev main_v639 : Ref sig .tc := ⟨.hbm, 841, rfl⟩
abbrev main_v640 : Ref sig .tc := ⟨.hbm, 842, rfl⟩
abbrev main_v641 : Ref sig .tc := ⟨.hbm, 843, rfl⟩
abbrev main_v642 : Ref sig .tc := ⟨.hbm, 844, rfl⟩
abbrev main_cst_134 : Ref sig .tc := ⟨.hbm, 845, rfl⟩
abbrev main_v643 : Ref sig .tc := ⟨.hbm, 846, rfl⟩
abbrev main_v644 : Ref sig .tc := ⟨.hbm, 847, rfl⟩
abbrev main_v645 : Ref sig .tc := ⟨.hbm, 848, rfl⟩
abbrev main_v646 : Ref sig .tc := ⟨.hbm, 849, rfl⟩
abbrev main_v647 : Ref sig .tc := ⟨.hbm, 850, rfl⟩
abbrev main_v648 : Ref sig .tc := ⟨.hbm, 851, rfl⟩
abbrev main_v649 : Ref sig .tc := ⟨.hbm, 852, rfl⟩
abbrev main_v650 : Ref sig .tc := ⟨.hbm, 853, rfl⟩
abbrev main_c_135 : Ref sig .tc := ⟨.hbm, 854, rfl⟩
abbrev main_v651 : Ref sig .tc := ⟨.hbm, 855, rfl⟩
abbrev main_v652 : Ref sig .tc := ⟨.hbm, 856, rfl⟩
abbrev main_v653 : Ref sig .tc := ⟨.hbm, 857, rfl⟩
abbrev main_v654 : Ref sig .tc := ⟨.hbm, 858, rfl⟩
abbrev main_v655 : Ref sig .tc := ⟨.hbm, 859, rfl⟩
abbrev main_c_136 : Ref sig .tc := ⟨.hbm, 860, rfl⟩
abbrev main_v656 : Ref sig .tc := ⟨.hbm, 861, rfl⟩
abbrev main_v657 : Ref sig .tc := ⟨.hbm, 862, rfl⟩
abbrev main_v658 : Ref sig .tc := ⟨.hbm, 863, rfl⟩
abbrev main_cst_137 : Ref sig .tc := ⟨.hbm, 864, rfl⟩
abbrev main_call39_v0 : Ref sig .tc := ⟨.hbm, 865, rfl⟩
abbrev main_call39_v1 : Ref sig .tc := ⟨.hbm, 866, rfl⟩
abbrev main_call39_v2 : Ref sig .tc := ⟨.hbm, 867, rfl⟩
abbrev main_v659 : Ref sig .tc := ⟨.hbm, 868, rfl⟩
abbrev main_cst_138 : Ref sig .tc := ⟨.hbm, 869, rfl⟩
abbrev main_v660 : Ref sig .tc := ⟨.hbm, 870, rfl⟩
abbrev main_v661 : Ref sig .tc := ⟨.hbm, 871, rfl⟩
abbrev main_v662 : Ref sig .tc := ⟨.hbm, 872, rfl⟩
abbrev main_v663 : Ref sig .tc := ⟨.hbm, 873, rfl⟩
abbrev main_call40_v0 : Ref sig .tc := ⟨.hbm, 874, rfl⟩
abbrev main_v664 : Ref sig .tc := ⟨.hbm, 875, rfl⟩
abbrev main_c_139 : Ref sig .tc := ⟨.hbm, 876, rfl⟩
abbrev main_v665 : Ref sig .tc := ⟨.hbm, 877, rfl⟩
abbrev main_v666 : Ref sig .tc := ⟨.hbm, 878, rfl⟩
abbrev main_v667 : Ref sig .tc := ⟨.hbm, 879, rfl⟩
abbrev main_cst_140 : Ref sig .tc := ⟨.hbm, 880, rfl⟩
abbrev main_v668 : Ref sig .tc := ⟨.hbm, 881, rfl⟩
abbrev main_cst_141 : Ref sig .tc := ⟨.hbm, 882, rfl⟩
abbrev main_v669 : Ref sig .tc := ⟨.hbm, 883, rfl⟩
abbrev main_v670 : Ref sig .tc := ⟨.hbm, 884, rfl⟩
abbrev main_v671 : Ref sig .tc := ⟨.hbm, 885, rfl⟩
abbrev main_v672 : Ref sig .tc := ⟨.hbm, 886, rfl⟩
abbrev main_v673 : Ref sig .tc := ⟨.hbm, 887, rfl⟩
abbrev main_v674 : Ref sig .tc := ⟨.hbm, 888, rfl⟩
abbrev main_cst_142 : Ref sig .tc := ⟨.hbm, 889, rfl⟩
abbrev main_v675 : Ref sig .tc := ⟨.hbm, 890, rfl⟩
abbrev main_v676 : Ref sig .tc := ⟨.hbm, 891, rfl⟩
abbrev main_v677 : Ref sig .tc := ⟨.hbm, 892, rfl⟩
abbrev main_v678 : Ref sig .tc := ⟨.hbm, 893, rfl⟩
abbrev main_v679 : Ref sig .tc := ⟨.hbm, 894, rfl⟩
abbrev main_v680 : Ref sig .tc := ⟨.hbm, 895, rfl⟩
abbrev main_v681 : Ref sig .tc := ⟨.hbm, 896, rfl⟩
abbrev main_v682 : Ref sig .tc := ⟨.hbm, 897, rfl⟩
abbrev main_v683 : Ref sig .tc := ⟨.hbm, 898, rfl⟩
abbrev main_v684 : Ref sig .tc := ⟨.hbm, 899, rfl⟩
abbrev main_call41_v0 : Ref sig .tc := ⟨.hbm, 900, rfl⟩
abbrev main_v685 : Ref sig .tc := ⟨.hbm, 901, rfl⟩
abbrev main_c_143 : Ref sig .tc := ⟨.hbm, 902, rfl⟩
abbrev main_v686 : Ref sig .tc := ⟨.hbm, 903, rfl⟩
abbrev main_v687 : Ref sig .tc := ⟨.hbm, 904, rfl⟩
abbrev main_v688 : Ref sig .tc := ⟨.hbm, 905, rfl⟩
abbrev main_v689 : Ref sig .tc := ⟨.hbm, 906, rfl⟩
abbrev main_v690 : Ref sig .tc := ⟨.hbm, 907, rfl⟩
abbrev main_cst_144 : Ref sig .tc := ⟨.hbm, 908, rfl⟩
abbrev main_v691 : Ref sig .tc := ⟨.hbm, 909, rfl⟩
abbrev main_v692 : Ref sig .tc := ⟨.hbm, 910, rfl⟩
abbrev main_v693 : Ref sig .tc := ⟨.hbm, 911, rfl⟩
abbrev main_v694 : Ref sig .tc := ⟨.hbm, 912, rfl⟩
abbrev main_v695 : Ref sig .tc := ⟨.hbm, 913, rfl⟩
abbrev main_v696 : Ref sig .tc := ⟨.hbm, 914, rfl⟩
abbrev main_v697 : Ref sig .tc := ⟨.hbm, 915, rfl⟩
abbrev main_v698 : Ref sig .tc := ⟨.hbm, 916, rfl⟩
abbrev main_c_145 : Ref sig .tc := ⟨.hbm, 917, rfl⟩
abbrev main_v699 : Ref sig .tc := ⟨.hbm, 918, rfl⟩
abbrev main_v700 : Ref sig .tc := ⟨.hbm, 919, rfl⟩
abbrev main_v701 : Ref sig .tc := ⟨.hbm, 920, rfl⟩
abbrev main_v702 : Ref sig .tc := ⟨.hbm, 921, rfl⟩
abbrev main_v703 : Ref sig .tc := ⟨.hbm, 922, rfl⟩
abbrev main_c_146 : Ref sig .tc := ⟨.hbm, 923, rfl⟩
abbrev main_v704 : Ref sig .tc := ⟨.hbm, 924, rfl⟩
abbrev main_v705 : Ref sig .tc := ⟨.hbm, 925, rfl⟩
abbrev main_v706 : Ref sig .tc := ⟨.hbm, 926, rfl⟩
abbrev main_cst_147 : Ref sig .tc := ⟨.hbm, 927, rfl⟩
abbrev main_call42_v0 : Ref sig .tc := ⟨.hbm, 928, rfl⟩
abbrev main_call42_v1 : Ref sig .tc := ⟨.hbm, 929, rfl⟩
abbrev main_call42_v2 : Ref sig .tc := ⟨.hbm, 930, rfl⟩
abbrev main_v707 : Ref sig .tc := ⟨.hbm, 931, rfl⟩
abbrev main_cst_148 : Ref sig .tc := ⟨.hbm, 932, rfl⟩
abbrev main_v708 : Ref sig .tc := ⟨.hbm, 933, rfl⟩
abbrev main_v709 : Ref sig .tc := ⟨.hbm, 934, rfl⟩
abbrev main_v710 : Ref sig .tc := ⟨.hbm, 935, rfl⟩
abbrev main_v711 : Ref sig .tc := ⟨.hbm, 936, rfl⟩
abbrev main_call43_v0 : Ref sig .tc := ⟨.hbm, 937, rfl⟩
abbrev main_v712 : Ref sig .tc := ⟨.hbm, 938, rfl⟩
abbrev main_c_149 : Ref sig .tc := ⟨.hbm, 939, rfl⟩
abbrev main_v713 : Ref sig .tc := ⟨.hbm, 940, rfl⟩
abbrev main_v714 : Ref sig .tc := ⟨.hbm, 941, rfl⟩
abbrev main_v715 : Ref sig .tc := ⟨.hbm, 942, rfl⟩
abbrev main_cst_150 : Ref sig .tc := ⟨.hbm, 943, rfl⟩
abbrev main_v716 : Ref sig .tc := ⟨.hbm, 944, rfl⟩
abbrev main_cst_151 : Ref sig .tc := ⟨.hbm, 945, rfl⟩
abbrev main_v717 : Ref sig .tc := ⟨.hbm, 946, rfl⟩
abbrev main_v718 : Ref sig .tc := ⟨.hbm, 947, rfl⟩
abbrev main_v719 : Ref sig .tc := ⟨.hbm, 948, rfl⟩
abbrev main_v720 : Ref sig .tc := ⟨.hbm, 949, rfl⟩
abbrev main_v721 : Ref sig .tc := ⟨.hbm, 950, rfl⟩
abbrev main_v722 : Ref sig .tc := ⟨.hbm, 951, rfl⟩
abbrev main_cst_152 : Ref sig .tc := ⟨.hbm, 952, rfl⟩
abbrev main_v723 : Ref sig .tc := ⟨.hbm, 953, rfl⟩
abbrev main_v724 : Ref sig .tc := ⟨.hbm, 954, rfl⟩
abbrev main_v725 : Ref sig .tc := ⟨.hbm, 955, rfl⟩
abbrev main_v726 : Ref sig .tc := ⟨.hbm, 956, rfl⟩
abbrev main_v727 : Ref sig .tc := ⟨.hbm, 957, rfl⟩
abbrev main_v728 : Ref sig .tc := ⟨.hbm, 958, rfl⟩
abbrev main_v729 : Ref sig .tc := ⟨.hbm, 959, rfl⟩
abbrev main_v730 : Ref sig .tc := ⟨.hbm, 960, rfl⟩
abbrev main_v731 : Ref sig .tc := ⟨.hbm, 961, rfl⟩
abbrev main_v732 : Ref sig .tc := ⟨.hbm, 962, rfl⟩
abbrev main_call44_v0 : Ref sig .tc := ⟨.hbm, 963, rfl⟩
abbrev main_v733 : Ref sig .tc := ⟨.hbm, 964, rfl⟩
abbrev main_c_153 : Ref sig .tc := ⟨.hbm, 965, rfl⟩
abbrev main_v734 : Ref sig .tc := ⟨.hbm, 966, rfl⟩
abbrev main_v735 : Ref sig .tc := ⟨.hbm, 967, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WholeRead
public import Idealize.ShloMosaic.Lib.Pipeline.Value
public import Idealize.ShloMosaic.Lib.VecWindow

@[expose] public section

set_option maxRecDepth 16384

noncomputable section

/-! # What one run of the kernel's body leaves in its buffers

The body's two cases: at the first grid point it fills the two scratch arrays and the table of optimal costs,
at the later points it leaves them; at every point it fills the point's block of the softmin array from the scratch. -/

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The values, from the input -/

/-- The first scratch array: the costs on and above the diagonal, the mask below. -/
def low (x : Vec F S8x256x256 .f32) : Vec F S8x256x256 .f32 := k0_pay2 x

/-- The column numbers of a row vector. -/
def colIx : IVec S8x1x256 32 := iota .tc S8x1x256 32 [2] iota_S8x1x256_d2_w32

/-- The row numbers of a column vector. -/
def rowIx : IVec S8x256x1 32 := iota .tc S8x256x1 32 [1] iota_S8x256x1_d1_w32

/-- The optimal costs of step `k`, even steps as rows and odd steps as columns. -/
def c0 (x : Vec F S8x256x256 .f32) : FVec F S8x1x256 .f32 := k0_pay4 x
def c1 (x : Vec F S8x256x256 .f32) : FVec F S8x256x1 .f32 := k0_pay5 x (low x)
def c2 (x : Vec F S8x256x256 .f32) : FVec F S8x1x256 .f32 := k0_pay6 x (low x)
def c3 (x : Vec F S8x256x256 .f32) : FVec F S8x256x1 .f32 := k0_pay7 (low x) colIx (c2 x) 253#32
def c4 (x : Vec F S8x256x256 .f32) : FVec F S8x1x256 .f32 := k0_pay8 (low x) (k0_pay3 x) colIx rowIx (c2 x) 253#32
def c5 (x : Vec F S8x256x256 .f32) : FVec F S8x256x1 .f32 := k0_pay9 (low x) (k0_pay3 x) colIx rowIx (c2 x) 253#32
def c6 (x : Vec F S8x256x256 .f32) : FVec F S8x1x256 .f32 := k0_pay10 (low x) (k0_pay3 x) colIx rowIx (c2 x) 253#32
def c7 (x : Vec F S8x256x256 .f32) : FVec F S8x256x1 .f32 := k0_pay11 (low x) colIx (c6 x) 249#32
def c8 (x : Vec F S8x256x256 .f32) : FVec F S8x1x256 .f32 := k0_pay12 (low x) (k0_pay3 x) colIx rowIx (c6 x) 249#32
def c9 (x : Vec F S8x256x256 .f32) : FVec F S8x256x1 .f32 := k0_pay13 (low x) (k0_pay3 x) colIx rowIx (c6 x) 249#32
def c10 (x : Vec F S8x256x256 .f32) : FVec F S8x1x256 .f32 := k0_pay14 (low x) (k0_pay3 x) colIx rowIx (c6 x) 249#32
def c11 (x : Vec F S8x256x256 .f32) : FVec F S8x256x1 .f32 := k0_pay15 (low x) colIx (c10 x) 245#32
def c12 (x : Vec F S8x256x256 .f32) : FVec F S8x1x256 .f32 := k0_pay16 (low x) (k0_pay3 x) colIx rowIx (c10 x) 245#32
def c13 (x : Vec F S8x256x256 .f32) : FVec F S8x256x1 .f32 := k0_pay17 (low x) (k0_pay3 x) colIx rowIx (c10 x) 245#32
def c14 (x : Vec F S8x256x256 .f32) : FVec F S8x1x256 .f32 := k0_pay18 (low x) (k0_pay3 x) colIx rowIx (c10 x) 245#32

/-- The second scratch array: the cost table shifted by one step and one column, masked. -/
def shifted (x : Vec F S8x256x256 .f32) : Vec F S8x16x256 .f32 :=
  k0_pay20 (low x) colIx (c0 x) (c1 x) (c2 x) (c3 x) (c4 x) (c5 x) (c6 x) (c7 x) (c8 x) (c9 x) (c10 x) (c11 x) (c12 x)
    (c13 x) (c14 x) 241#32

/-- The first output: the table of optimal costs. -/
def table (x : Vec F S8x256x256 .f32) : Vec F S8x256x16 .f32 :=
  k0_pay24 (k0_pay21 (low x) colIx (c0 x) (c1 x) (c2 x) (c3 x) (c4 x) (c5 x) (c6 x) (c7 x) (c8 x) (c9 x) (c10 x) (c11 x)
    (c12 x) (c13 x) (c14 x) 241#32) k0_pay22 k0_pay23

/-- Point `i`'s slab of the second scratch array. -/
def slab (i : grid0.Coords) (s : Vec F S8x16x256 .f32) : Vec F S1x16x256 .f32 :=
  View.ld s (Rect.unit (s := S8x16x256) (k0_off1 i) S1x16x256.size (k0_off1_inb i))

/-- Point `i`'s first 128 rows of the first scratch array. -/
def rowsLo (i : grid0.Coords) (l : Vec F S8x256x256 .f32) : Vec F S1x128x256 .f32 :=
  View.ld l (Rect.unit (s := S8x256x256) (k0_off2 i) S1x128x256.size (k0_off2_inb i))

/-- Point `i`'s last 128 rows and columns of the first scratch array. -/
def rowsHi (i : grid0.Coords) (l : Vec F S8x256x256 .f32) : Vec F S1x128x128 .f32 :=
  View.ld l (Rect.unit (s := S8x256x256) (k0_off4 i) S1x128x128.size (k0_off4_inb i))

/-- The block of the second output point `i` computes from the scratch arrays: the first 128 rows whole, the last 128
    in two halves, the left one filled. The last store first. -/
def pieces (i : grid0.Coords) (l : Vec F S8x256x256 .f32) (s : Vec F S8x16x256 .f32) :
    List (View.Piece (Elt F) S1x256x16x256 .f32) :=
  [⟨Rect.unit (s := S1x256x16x256) k0_off6 S1x128x16x128.size k0_off6_inb,
      k0_pay1 (k0_pay29 (k0_pay25 (slab i s)) k0_pay26 (rowsHi i l))⟩,
    ⟨Rect.unit (s := S1x256x16x256) k0_off5 S1x128x16x128.size k0_off5_inb, k0_pay30⟩,
    ⟨Rect.unit (s := S1x256x16x256) k0_off3 S1x128x16x256.size k0_off3_inb,
      k0_pay28 (k0_pay27 (slab i s) (rowsLo i l))⟩]

/-- The same, as one array. -/
def block (i : grid0.Coords) (l : Vec F S8x256x256 .f32) (s : Vec F S8x16x256 .f32) : Vec F S1x256x16x256 .f32 :=
  View.canon (pieces i l s)

/-- The three pieces fill the block. -/
theorem pieces_cover (i : grid0.Coords) (l : Vec F S8x256x256 .f32) (s : Vec F S8x16x256 .f32) (y : S1x256x16x256.Idx) :
    ∃ pc ∈ pieces i l s, y ∈ pc.1.set :=
  View.cover_of_tiledBy (pieces i l s) ![1, 128, 16, 128] (by sl_kernel_rfl) y

/-! ## The runs -/

set_option maxRecDepth 100000 in
set_option maxHeartbeats 1000000 in
/-- At a later point the body fills its block from the scratch arrays and leaves every other buffer. -/
theorem body_later (c : Dev nD) (i : grid0.Coords) (arg1 : Memref sig .tc .vmem S8x256x256 .f32) (harg1 : arg1.IsWhole)
    (arg2 : Memref sig .tc .vmem S8x256x16 .f32) (harg2 : arg2.IsWhole)
    (arg3 : Memref sig .tc .vmem S1x256x16x256 .f32) (harg3 : arg3.IsWhole)
    (arg4 : Memref sig .tc .vmem S8x256x256 .f32) (harg4 : arg4.IsWhole)
    (arg5 : Memref sig .tc .vmem S8x16x256 .f32) (harg5 : arg5.IsWhole)
    (hc : ¬ k0_cond1 i = 1#1) (x : Vec F S8x256x256 .f32) (o : Vec F S8x256x16 .f32) (l : Vec F S8x256x256 .f32)
    (s : Vec F S8x16x256 .f32) (E : Set ℕ) (K : PUnit → sProp 𝕄) :
    iprop(owns (c : Thread nD τ) arg1 fullShare x ∗ owns (c : Thread nD τ) arg2 fullShare o
        ∗ (∃ d, owns (c : Thread nD τ) arg3 fullShare d) ∗ owns (c : Thread nD τ) arg4 fullShare l
        ∗ owns (c : Thread nD τ) arg5 fullShare s
        ∗ (iprop(owns (c : Thread nD τ) arg1 fullShare x ∗ owns (c : Thread nD τ) arg2 fullShare o
          ∗ owns (c : Thread nD τ) arg3 fullShare (block i l s) ∗ owns (c : Thread nD τ) arg4 fullShare l
          ∗ owns (c : Thread nD τ) arg5 fullShare s) -∗ K ⟨⟩))
      ⊢ wp frame (wpE (defs₀ (F := F)) Variants.none c none) E
        (cc0__body i arg1 harg1 arg2 harg2 arg3 harg3 arg4 harg4 arg5 harg5) K := by
  simp only [cc0__body_eq_skeleton]; unfold cc0__body_skel
  simp only [k0_part6_eq_skeleton, k0_part7_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | sl_exact hc)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr
    swap; · iexact H2
    ipureintro
    refine Eq.trans ?_ (View.read_writes_eq_canon arg3.view f2 (pieces i l s) (pieces_cover i l s))
    have e1 : View.readAt (Elt F) arg5.view (Rect.unit (s := S8x16x256) (k0_off1 i) S1x16x256.size (k0_off1_inb i)).toLoadRect
        (harg5.unread s) = slab i s := funext fun _ => harg5.readAt_unread s _ _
    have e2 : View.readAt (Elt F) arg4.view (Rect.unit (s := S8x256x256) (k0_off2 i) S1x128x256.size (k0_off2_inb i)).toLoadRect
        (harg4.unread l) = rowsLo i l := funext fun _ => harg4.readAt_unread l _ _
    have e3 : View.readAt (Elt F) arg4.view (Rect.unit (s := S8x256x256) (k0_off4 i) S1x128x128.size (k0_off4_inb i)).toLoadRect
        (harg4.unread l) = rowsHi i l := funext fun _ => harg4.readAt_unread l _ _
    unfold pieces
    rw [← e1, ← e2, ← e3]
    sl_unfold_run_names
    rfl
  isplitl [HS0]
  · iexists _; isplitr; · ipureintro; exact harg4.read_unread _
    iexact HS0
  iexists _; isplitr; · ipureintro; exact harg5.read_unread _
  iexact HS1

set_option maxRecDepth 100000 in
set_option maxHeartbeats 1000000 in
/-- At the first point the body fills the scratch arrays and the cost table from the input, then the point's block. -/
theorem body_first (c : Dev nD) (i : grid0.Coords) (arg1 : Memref sig .tc .vmem S8x256x256 .f32) (harg1 : arg1.IsWhole)
    (arg2 : Memref sig .tc .vmem S8x256x16 .f32) (harg2 : arg2.IsWhole)
    (arg3 : Memref sig .tc .vmem S1x256x16x256 .f32) (harg3 : arg3.IsWhole)
    (arg4 : Memref sig .tc .vmem S8x256x256 .f32) (harg4 : arg4.IsWhole)
    (arg5 : Memref sig .tc .vmem S8x16x256 .f32) (harg5 : arg5.IsWhole)
    (hc : k0_cond1 i = 1#1) (x : Vec F S8x256x256 .f32) (E : Set ℕ) (K : PUnit → sProp 𝕄) :
    iprop(owns (c : Thread nD τ) arg1 fullShare x ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x ∗ owns (c : Thread nD τ) arg2 fullShare (table x)
          ∗ owns (c : Thread nD τ) arg3 fullShare (block i (low x) (shifted x))
          ∗ owns (c : Thread nD τ) arg4 fullShare (low x) ∗ owns (c : Thread nD τ) arg5 fullShare (shifted x)) -∗ K ⟨⟩))
      ⊢ wp frame (wpE (defs₀ (F := F)) Variants.none c none) E
        (cc0__body i arg1 harg1 arg2 harg2 arg3 harg3 arg4 harg4 arg5 harg5) K := by
  simp only [cc0__body_eq_skeleton]; unfold cc0__body_skel
  simp only [k0_part6_eq_skeleton, k0_part1_eq_skeleton, k0_part2_eq_skeleton, k0_part3_eq_skeleton,
    k0_part4_eq_skeleton, k0_part5_eq_skeleton, k0_part7_eq_skeleton]
  unfold owns
  iintro ⟨⟨%f0, %hf0, H0⟩, ⟨%d1, %f1, -, H1⟩, ⟨%d2, %f2, -, H2⟩, ⟨%ds0, %fs0, -, HS0⟩, ⟨%ds1, %fs1, -, HS1⟩, Hk⟩
  obtain rfl := harg1.eq_unread hf0
  sl_exec (disch := first | sl_exact hc)
  sl_step
  iapply Hk
  have hx : View.readAt (Elt F) arg1.view
      (Rect.unit (s := S8x256x256) ![0, 0, 0] S8x256x256.size inb_S8x256x256_S8x256x256_0_0_0).toLoadRect (harg1.unread x) = x := by
    rw [View.readAt_full]; exact harg1.read_unread x
  have off0 : (![0, 0, 0] : Fin 3 → Nat) = fun _ => 0 := funext fun a => by fin_cases a <;> rfl
  have h4 (w : Vec F S8x256x256 .f32) : View.canon (Val := Elt F)
      [(⟨Rect.unit ![0, 0, 0] ![8, 256, 256] inb_S8x256x256_S8x256x256_0_0_0, w⟩ : View.Piece (Elt F) S8x256x256 .f32)] = w := View.canon_unit_zero off0 _ w
  have h5 (w : Vec F S8x16x256 .f32) : View.canon (Val := Elt F)
      [(⟨Rect.unit ![0, 0, 0] ![8, 16, 256] inb_S8x16x256_S8x16x256_0_0_0, w⟩ : View.Piece (Elt F) S8x16x256 .f32)] = w := View.canon_unit_zero off0 _ w
  have hr (w : Vec F S8x256x256 .f32) : arg4.view.readCov (Val := Elt F)
      [(⟨Rect.unit ![0, 0, 0] ![8, 256, 256] inb_S8x256x256_S8x256x256_0_0_0, w⟩ : View.Piece (Elt F) S8x256x256 .f32)]
      (Rect.unit (s := S8x256x256) ![0, 0, 0] ![8, 256, 256] inb_S8x256x256_S8x256x256_0_0_0).toLoadRect = w :=
    View.readCov_unit_zero arg4.view off0 _ w
  isplitl [H0]
  · iexists _; isplitr; · ipureintro; exact harg1.read_unread _
    iexact H0
  isplitl [H1]
  · iexists _; isplitr
    swap; · iexact H1
    ipureintro
    rw [View.read_writes_full]
    sl_unfold_run_names
    simp only [hx, hr, table, low, colIx, rowIx, c0, c1, c2, c3, c4, c5, c6, c7, c8, c9, c10, c11, c12, c13, c14]
    first | done | rfl
  isplitl [H2]
  · iexists _; isplitr
    swap; · iexact H2
    ipureintro
    refine Eq.trans ?_ (View.read_writes_eq_canon arg3.view f2 (pieces i (low x) (shifted x)) (pieces_cover i _ _))
    sl_unfold_run_names
    simp only [hx, hr, View.readCov_eq_canon', View.readAt_writes_junk_eq_canon, h4, h5]
    rfl
  isplitl [HS0]
  · iexists _; isplitr
    swap; · iexact HS0
    ipureintro
    sl_unfold_run_names
    rw [View.read_writes_full, hx]
    rfl
  iexists _; isplitr
  swap; · iexact HS1
  ipureintro
  sl_unfold_run_names
  rw [View.read_writes_full]
  simp only [hx, hr, shifted, low, colIx, rowIx, c0, c1, c2, c3, c4, c5, c6, c7, c8, c9, c10, c11, c12, c13, c14]
  first | done | rfl

end Cert.KernelIdeal.Body
-- ==== Proof.Launch.lean ====
module

public import proofs.«01_k».proof.Proof.Body
public import Idealize.ShloMosaic.Lib.Pipeline.TableIdle
public import Idealize.ShloMosaic.Lib.Claim

/-! # The launch

What every buffer of the pipeline holds at every grid point, the body's obligation there, and the run of the whole
program to those contents. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

/-- The body's branch is taken at the first point only. -/
theorem cond_iff : ∀ t : Fin cfg0.N, k0_cond1 (grid0.coords t) = 1#1 ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val % 8 = 0)

/-- The three windows' staging buffers at point `t`. -/
abbrev ms0 (t : Fin cfg0.N) : Memref sig .tc .vmem S8x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x16x256 .f32 := win0_2.stage (cfg0.slots t 2)
abbrev hs2 (t : Fin cfg0.N) : (ms2 t).IsWhole := hstage0_2 ((cfg0.slots t 2).cast nbuf0_2)
/-- The two scratch buffers. -/
abbrev scr0 : Memref sig .tc .vmem S8x256x256 .f32 := Memref.whole cc0_scratch0
abbrev scr1 : Memref sig .tc .vmem S8x16x256 .f32 := Memref.whole cc0_scratch1

/-- The input block of the first point: every point's. -/
abbrev inp (c : Dev nD) : Vec F S8x256x256 .f32 := iblk m c 0 t0_0

theorem iblk_eq (c : Dev nD) (t : Fin cfg0.N) : iblk m c 0 t = inp m c := rfl

/-- The invariant before the first point: the scratch buffers at anything. -/
theorem PhiA_eq (c : Dev nD) :
    (Pipeline.ΦA spec0 c : sProp 𝕄)
      = iprop(iprop((∃ d, owns (c : Thread nD τ) scr0 fullShare d) ∗ (∃ d, owns (c : Thread nD τ) scr1 fullShare d))
          ∗ (∃ r, prngReg c r)) := by
  unfold Pipeline.ΦA; rw [scopedRest0_eq]; simp only [scr0, scr1, owns_whole]; try rfl

/-- The invariant: before the first point the scratch buffers hold anything, after it the masked costs and the shifted
    cost table. -/
def PhiS (c : Dev nD) : ℕ → sProp 𝕄
  | 0 => Pipeline.ΦA spec0 c
  | _ + 1 => iprop(iprop(owns (c : Thread nD τ) scr0 fullShare (low (inp m c))
      ∗ owns (c : Thread nD τ) scr1 fullShare (shifted (inp m c))) ∗ (∃ r, prngReg c r))

theorem PhiS_pos (c : Dev nD) (n : ℕ) (h : n ≠ 0) :
    PhiS m c n = iprop(iprop(owns (c : Thread nD τ) scr0 fullShare (low (inp m c))
      ∗ owns (c : Thread nD τ) scr1 fullShare (shifted (inp m c))) ∗ (∃ r, prngReg c r)) := by
  cases n with
  | zero => exact absurd rfl h
  | succ n => rfl

/-! ## The pipeline's proof data -/

/-- The contents at every point: the input block in place, the cost table from the first point on, point `t`'s block of
    the second output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => table (inp m c)
    | ⟨2, _⟩ => block (grid0.coords t) (low (inp m c)) (shifted (inp m c))
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inp m c := by dsimp only [dats]; exact iblk_eq m c t
theorem after_1 (c : Dev nD) (t : Fin cfg0.N) : (dats m 0 c).after 1 t = table (inp m c) := by dsimp only [dats]
theorem after_2 (c : Dev nD) (t : Fin cfg0.N) :
    (dats m 0 c).after 2 t = block (grid0.coords t) (low (inp m c)) (shifted (inp m c)) := by dsimp only [dats]

/-- The input's buffer holds its block at every point. -/
theorem before_0 (c : Dev nD) (t : Fin cfg0.N) (d) : (dats m 0 c).before 0 t d = inp m c :=
  (before0_0_of m (dats m 0 c) (A_eq m c 0) (fun t => by dsimp only [dats]) t d).trans (iblk_eq m c t)

/-- The first output's buffer is fresh at the first point only (and after the last). -/
theorem fresh_1 : ∀ n, n ≤ cfg0.N → cfg0.fresh 1 n = (n == 0 || n == 8) :=
  cfg0.fresh_tab 1 (fun n => n == 0 || n == 8) rfl (by decide +kernel)

/-- After the first point the first output's buffer holds the cost table. -/
theorem before_1 (c : Dev nD) (t : Fin cfg0.N) (h : t.val ≠ 0) (d) : (dats m 0 c).before 1 t d = table (inp m c) := by
  have hN : t.val < 8 := lt_of_lt_of_eq t.isLt (show cfg0.N = 8 from N_0)
  rw [(dats m 0 c).before_out_traj 1 rfl (fun _ _ => rfl) (fun t _ _ _ => by rw [after_1, after_1]) t.val t rfl d,
    fresh_1 t.val t.isLt.le, if_neg (by simp only [Bool.or_eq_true, beq_iff_eq]; omega), after_1]

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns: every buffer at its contents. -/
def bodyPost (c : Dev nD) (t : Fin cfg0.N) : sProp 𝕄 :=
  iprop((dats m 0 c).Φ t.succ ∗ (dats m 0 c).owesAt () t.succ
    ∗ owns (c : Thread nD τ) (ms0 t) fullShare (inp m c)
    ∗ (dats m 0 c).leavesExact 1 t
    ∗ owns (c : Thread nD τ) (ms2 t) fullShare (block (grid0.coords t) (low (inp m c)) (shifted (inp m c))))

/-- The first output's buffer, left at the cost table, is left as the obligation asks at a point idle for it or not. -/
theorem leaves_1 (c : Dev nD) (t : Fin cfg0.N) :
    owns (c : Thread nD τ) (ms1 t) fullShare (table (inp m c)) ⊢ (dats m 0 c).leavesExact 1 t := by
  unfold Dat.leavesExact
  rw [after_1]
  cases hi : cfg0.idle 1 (cfg0.grid.coords t) with
  | false => exact .rfl
  | true =>
    cases (cfg0.win 1).flush t with
    | true => exact .rfl
    | false =>
      have hz : t.val ≠ 0 := fun h => by
        have e : k0_cond1 (grid0.coords t) = 1#1 := (cond_iff t).mpr (by omega)
        have : (!(k0_cond1 (grid0.coords t) == 1#1)) = true := hi
        rw [e] at this; exact absurd this (by decide)
      simp only [before_1 m c t hz]
      iintro H; iexists (table (inp m c)); iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  have hN : t.val < 8 := lt_of_lt_of_eq t.isLt (show cfg0.N = 8 from N_0)
  rw [show (dats m 0 c).owesAt () t.succ = (dats m 0 c).owesAt () t.castSucc from rfl,
    show (dats m 0 c).Φ t.succ = PhiS m c (t.val + 1) from rfl, PhiS_pos m c _ (Nat.succ_ne_zero _),
    show (dats m 0 c).Φ t.castSucc = PhiS m c t.val from rfl]
  by_cases hz : t.val = 0
  · rw [show PhiS m c t.val = Pipeline.ΦA spec0 c from by rw [hz]; rfl, PhiA_eq]
    iintro ⟨⟨⟨HS0, HS1⟩, Hg⟩, Ho, ⟨%d0, H0⟩, ⟨%d1, H1⟩, ⟨%d2, H2⟩⟩
    iapply (body_first c (grid0.coords t) (ms0 t) (hs0 t) (ms1 t) (hs1 t) (ms2 t) (hs2 t) scr0 (Memref.isWhole_whole _)
      scr1 (Memref.isWhole_whole _) ((cond_iff t).mpr (by omega)) (inp m c) Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iapply (leaves_1 m c t); iexact H1
    iexact H2
  · rw [PhiS_pos m c _ hz]
    simp only [before_1 m c t hz]
    iintro ⟨⟨⟨HS0, HS1⟩, Hg⟩, Ho, ⟨%d0, H0⟩, ⟨%d1, H1⟩, ⟨%d2, H2⟩⟩
    iapply (body_later c (grid0.coords t) (ms0 t) (hs0 t) (ms1 t) (hs1 t) (ms2 t) (hs2 t) scr0 (Memref.isWhole_whole _)
      scr1 (Memref.isWhole_whole _) (fun h => by have := (cond_iff t).mp h; omega) (inp m c) (table (inp m c))
      (low (inp m c)) (shifted (inp m c)) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iapply (leaves_1 m c t); iexact H1
    iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  have h0 : cfg0.idle 0 (cfg0.grid.coords t) = false := rfl
  have h2 : cfg0.idle 2 (cfg0.grid.coords t) = false := rfl
  unfold Dat.leavesExact
  simp only [h0, h2, after_0, after_2]
  exact .rfl

theorem hin (c : Dev nD) : Pipeline.ΦA spec0 c ⊢ (dats m 0 c).Φ 0 := by
  rw [show (dats m 0 c).Φ 0 = Pipeline.ΦA spec0 c from rfl]

/-- After the last point the scratch contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 8 := N_0; omega), PhiA_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every execution ends with the pipeline's arrays at what the contents above say, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every execution ends with the input unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.WordFrame.lean ====
module

public import proofs.«01_k».proof.Proof.Launch
public import proofs.«01_k».proof.Defs
public import proofs.«01_k».proof.Proof.Gen.Kernel

/-! # The frame of the kernel over machine words

The idealized kernel, read where its named literal is the word it is written as, is the kernel itself: one frame proof
serves both. -/

@[expose] public section

set_option maxRecDepth 16384

noncomputable section

namespace Cert.WordFrame

open Idealize.ShloMosaic Idealize.SL.Sem

/-- The reading of a named literal by its own word. -/
local instance literal : Named Bits := ⟨fun _ _ {φ} b => Scalar.ofBits φ b⟩

/-- The two programs have the same bodies. -/
theorem bodies_eq : Cert.Kernel.defs₀ (F := Bits) = Cert.KernelIdeal.defs₀ (F := Bits) := by
  refine congrArg Defs.onTc ?_
  funext l a
  match l, a with
  | 0, (t, s) => exact rfl

/-- The two programs have the same table of bodies and pipelines. -/
theorem defs_eq : Cert.Kernel.defs (F := Bits) = Cert.KernelIdeal.defs (F := Bits) := congrArg (Pipeline.defs _) bodies_eq

/-- The two programs have the same main function. -/
theorem main_eq : Cert.Kernel.main (F := Bits) = Cert.KernelIdeal.main (F := Bits) := rfl

/-- Every run of the kernel ends with its argument unchanged and the counters at zero. -/
theorem frame : Cert.quiescent_Kernel := fun m ρ _ => by
  have h := Cert.KernelIdeal.Body.frame (F := Bits) m ρ
  rw [← defs_eq, ← main_eq] at h
  exact h

end Cert.WordFrame

end
-- ==== Proof.Costs.lean ====
module

public import Idealize.ShloMosaic.PureOps.Ideal
public import Idealize.ShloMosaic.Lib.Pointwise

/-! # The mathematics of the recursion

A path of at most `k` further segments from row `n` has the optimal cost `best x b k n`; `masked` are the costs of its
first segments, infinite where no segment is allowed. Nothing here names a program. -/

@[expose] public section

noncomputable section

namespace Cert.Costs

open Idealize.ShloMosaic

/-- The costs: one matrix for each of eight batches. -/
abbrev Mat := (⟨3, ![8, 256, 256]⟩ : Shape).Idx → EReal

/-- The next row's entry, zero after the last. -/
def next (c : Fin 256 → EReal) (i : Fin 256) : EReal := if h : i.val + 1 < 256 then c ⟨i.val + 1, h⟩ else 0

/-- The cost of a first segment that ends at `i`, infinite where `i` is before `n` or leaves no room for `k` more. -/
def masked (x : Mat) (b : Fin 8) (k : ℕ) (c : Fin 256 → EReal) (n i : Fin 256) : EReal :=
  if n.val ≤ i.val ∧ i.val + k < 256 then x (ix3 b n i) + next c i else ⊤

/-- The optimal costs with `k` further segments. -/
def best (x : Mat) (b : Fin 8) : ℕ → Fin 256 → EReal
  | 0 => fun n => x (ix3 b n 255)
  | k + 1 => fun n => (Finset.univ : Finset (Fin 256)).fold min ⊤ fun i => masked x b (k + 1) (best x b k) n i

/-- The costs of the first segments that step `k` chooses among. -/
def cand (x : Mat) (b : Fin 8) (k : ℕ) (n i : Fin 256) : EReal :=
  if k = 0 then ⊤ else masked x b k (best x b (k - 1)) n i

/-- The minimum of nothing below `⊥`. -/
theorem fold_ne_bot (f : Fin 256 → EReal) (h : ∀ i, f i ≠ ⊥) : (Finset.univ : Finset (Fin 256)).fold min ⊤ f ≠ ⊥ := by
  rw [ne_eq, ← le_bot_iff, Finset.fold_min_le]
  rintro (h' | ⟨i, -, hi⟩)
  · exact absurd h' (by simp)
  · exact h i (le_bot_iff.1 hi)

theorem next_ne_bot {c : Fin 256 → EReal} (h : ∀ i, c i ≠ ⊥) (i : Fin 256) : next c i ≠ ⊥ := by
  unfold next; split
  · exact h _
  · exact EReal.zero_ne_bot

theorem masked_ne_bot {x : Mat} (hx : ∀ j, x j ≠ ⊥) (b : Fin 8) (k : ℕ) {c : Fin 256 → EReal} (h : ∀ i, c i ≠ ⊥) (n i : Fin 256) :
    masked x b k c n i ≠ ⊥ := by
  unfold masked; split
  · exact EReal.add_ne_bot_iff.2 ⟨hx _, next_ne_bot h i⟩
  · exact top_ne_bot

/-- No optimal cost is `⊥`. -/
theorem best_ne_bot {x : Mat} (hx : ∀ j, x j ≠ ⊥) (b : Fin 8) : ∀ (k : ℕ) (n : Fin 256), best x b k n ≠ ⊥
  | 0, _ => hx _
  | k + 1, n => fold_ne_bot _ fun i => masked_ne_bot hx b (k + 1) (best_ne_bot hx b k) n i

/-- A segment's cost as a sum of the masked cost and the masked rest. -/
theorem masked_eq_add {x : Mat} (hx : ∀ j, x j ≠ ⊥) (b : Fin 8) (k : ℕ) {c : Fin 256 → EReal} (h : ∀ i, c i ≠ ⊥) (n i : Fin 256) :
    (if n.val ≤ i.val then x (ix3 b n i) else ⊤) + (if i.val + k < 256 then next c i else ⊤) = masked x b k c n i := by
  unfold masked
  by_cases h1 : n.val ≤ i.val
  · rw [if_pos h1]
    by_cases h2 : i.val + k < 256
    · rw [if_pos h2, if_pos ⟨h1, h2⟩]
    · rw [if_neg h2, if_neg (fun q => h2 q.2)]
      exact EReal.add_top_of_ne_bot (hx _)
  · rw [if_neg h1, if_neg (fun q : n.val ≤ i.val ∧ i.val + k < 256 => h1 q.1)]
    refine EReal.top_add_of_ne_bot ?_
    split
    · exact next_ne_bot h i
    · exact top_ne_bot

/-- The same for `cand`: the second summand infinite at step zero. -/
theorem cand_eq_add {x : Mat} (hx : ∀ j, x j ≠ ⊥) (b : Fin 8) (k : ℕ) (n i : Fin 256) :
    (if n.val ≤ i.val then x (ix3 b n i) else ⊤) + (if 1 ≤ k ∧ i.val + k < 256 then next (best x b (k - 1)) i else ⊤)
      = cand x b k n i := by
  unfold cand
  rcases k with _ | k
  · rw [if_pos (rfl : 0 = 0), if_neg (fun q : 1 ≤ 0 ∧ _ => absurd q.1 (by decide))]
    refine EReal.add_top_of_ne_bot ?_
    split
    · exact hx _
    · exact top_ne_bot
  · rw [if_neg (Nat.succ_ne_zero k), ← masked_eq_add hx b (k + 1) (best_ne_bot hx b (k + 1 - 1)) n i]
    refine congrArg (_ + ·) (if_congr ⟨fun q => q.2, fun q => ⟨by omega, q⟩⟩ rfl rfl)

/-! ## The bound -/

/-- With every cost at most `B`, an optimal cost with room for its segments is at most one `B` a segment. -/
theorem best_le {x : Mat} {B : ℝ} (hx : ∀ j, x j ≤ (B : EReal)) (b : Fin 8) :
    ∀ (k : ℕ) (n : Fin 256), n.val + k < 256 → best x b k n ≤ (((k + 1 : ℕ) * B : ℝ) : EReal)
  | 0, n, _ => by simpa [best] using hx (ix3 b n 255)
  | k + 1, n, h => by
    refine (Finset.fold_min_le _).2 (.inr ⟨n, Finset.mem_univ _, ?_⟩)
    unfold masked next
    rw [if_pos ⟨le_refl _, h⟩, dif_pos (by omega)]
    refine (add_le_add (hx _) (best_le hx b k ⟨n.val + 1, by omega⟩ (by show n.val + 1 + k < 256; omega))).trans (le_of_eq ?_)
    rw [← EReal.coe_add]
    congr 1
    push_cast; ring

/-- An allowed candidate is at most one `B` a segment. -/
theorem cand_le {x : Mat} {B : ℝ} (hx : ∀ j, x j ≤ (B : EReal)) (b : Fin 8) (k : ℕ) (n i : Fin 256) (hk : 1 ≤ k)
    (h : n.val ≤ i.val ∧ i.val + k < 256) : cand x b k n i ≤ (((k + 1 : ℕ) * B : ℝ) : EReal) := by
  unfold cand masked next
  rw [if_neg (by omega), if_pos h, dif_pos (by omega)]
  refine (add_le_add (hx _) (best_le hx b (k - 1) ⟨i.val + 1, by omega⟩ (by show i.val + 1 + (k - 1) < 256; omega))).trans (le_of_eq ?_)
  rw [← EReal.coe_add]
  congr 1
  have : ((k - 1 + 1 : ℕ) : ℝ) = (k : ℝ) := by congr 1; omega
  rw [this]; push_cast; ring

/-- A candidate that is not allowed is infinite. -/
theorem cand_top (x : Mat) (b : Fin 8) (k : ℕ) (n i : Fin 256) (h : ¬(1 ≤ k ∧ n.val ≤ i.val ∧ i.val + k < 256)) : cand x b k n i = ⊤ := by
  unfold cand masked
  split
  · rfl
  · rw [if_neg fun q => h ⟨by omega, q⟩]

/-! ## The two results -/

/-- The table of optimal costs, zero where a row has no room for its segments. -/
def costs (x : Mat) (b : Fin 8) (n : Fin 256) (k : ℕ) : EReal := if 1 ≤ k ∧ 256 ≤ n.val + k then 0 else best x b k n

/-- The softmin of the candidates. -/
def softmin (a : Fin 256 → EReal) (i : Fin 256) : EReal :=
  Ideal.div (Ideal.exp ((Finset.univ : Finset (Fin 256)).fold min ⊤ a - a i))
    (∑ j, Ideal.exp ((Finset.univ : Finset (Fin 256)).fold min ⊤ a - a j))

/-- The weights: a softmin over the allowed candidates, `-1` elsewhere; at step zero the last one alone is allowed. -/
def weights (x : Mat) (b : Fin 8) (n : Fin 256) (k : ℕ) (i : Fin 256) : EReal :=
  if k = 0 then if i.val = 255 then 1 else -1
  else if n.val ≤ i.val ∧ i.val + k < 256 then softmin (cand x b k n) i else -1

end Cert.Costs

end
-- ==== Proof.Steps.lean ====
module

public import proofs.«01_k».proof.Proof.Body
public import proofs.«01_k».proof.Proof.Costs
public import Idealize.ShloMosaic.Lib.WordCmp

/-! # The kernel's steps on the extended reals

Each step of the kernel's recursion makes the next row of optimal costs; the tables made of the rows, read at an index. -/

@[expose] public section

noncomputable section

namespace Cert.KernelIdeal.Body

open Cert.KernelIdeal Cert.KernelIdeal.Gen Idealize.ShloMosaic Cert.Costs Idealize.ShloMosaic.WordCmp

/-- The named constant is infinite. -/
theorem mask_eq : Named.named (F := Ideal) κ "mask" (φ := .f32) 0x4E6E6B28#32 = ⊤ :=
  IdealRules.named_const.ideal_named_scalar κ "mask" _ ⊤ (by simp [κ])

/-- The pattern of positive infinity. -/
theorem inf_eq : Ideal.ofBits .f32 0x7F800000#32 = ⊤ := by simp [Ideal.ofBits, Ideal.ieee]

variable {x : Vec Ideal S8x256x256 .f32}

/-- The first scratch array at an index. -/
theorem low_apply (b : Fin 8) (n i : Fin 256) : low x (ix3 b n i) = if n.val ≤ i.val then x (ix3 b n i) else ⊤ := by
  pointwise [low, k0_pay2]
  rw [mask_eq, cmpi_sge_ofNat (by omega) (by omega), select_ofBool]
  simp only [decide_eq_true_eq]

/-- The transposed costs at an index: the first scratch array's, rows and columns exchanged. -/
theorem up_apply (b : Fin 8) (i n : Fin 256) : k0_pay3 x (ix3 b i n) = if n.val ≤ i.val then x (ix3 b n i) else ⊤ := by
  pointwise [k0_pay3]
  rw [mask_eq, cmpi_sle_ofNat (by omega) (by omega), select_ofBool]
  simp only [decide_eq_true_eq]

/-- One step by columns: the minimum over the columns of the costs and the previous row, shifted and masked. -/
def colStep (L : Vec Ideal S8x256x256 .f32) (c : FVec Ideal S8x1x256 .f32) (w : BitVec 32) : FVec Ideal S8x256x1 .f32 :=
  k0_pay7 L colIx c w

/-- One step by rows: the same with rows and columns exchanged. -/
def rowStep (U : FVec Ideal S8x256x256 .f32) (c : FVec Ideal S8x256x1 .f32) (w : BitVec 32) : FVec Ideal S8x1x256 .f32 :=
  shapeCast S8x1x256 (multiReduction .minimumf [1] S8x256 (addf U (broadcastTo S8x256x256
    (select (cmpi .slt rowIx (broadcast S8x256x1 w))
      (concatenate S8x256x1 1 [⟨S8x255x1, extractStridedSlice S8x255x1 ![0, 1, 0] c slices_S8x256x1_o0_1_0_S8x255x1⟩,
        ⟨S8x1x1, broadcast S8x1x1 (Scalar.ofBits .f32 0x00000000#32)⟩] concatenates_S8x255x1_S8x1x1_S8x256x1_d1)
      (broadcast S8x256x1 (Named.named κ "mask" 0x4E6E6B28#32)))
    broadcasts_S8x256x1_S8x256x256)) 0x7F800000#32 reduces_S8x256x256_S8x256_2 (.inl rfl) rfl) shapeCasts_S8x256_S8x1x256

/-- The shifted and masked previous row, as both steps write it. -/
theorem masked_next (c : Fin 256 → EReal) (k : ℕ) (hk : k < 16) (i : Fin 256) :
    Scalar.select (IntOp.cmpi .slt (BitVec.ofNat 32 i.val) (BitVec.ofNat 32 (255 - k)))
      (if h : i.val < 255 then c ⟨1 + i.val, by omega⟩ else 0) ⊤ = if i.val + (k + 1) < 256 then next c i else ⊤ := by
  rw [cmpi_slt_ofNat (by omega) (by omega), select_ofBool]
  unfold next
  by_cases h : i.val + (k + 1) < 256
  · rw [if_pos h, if_pos (by simp only [decide_eq_true_eq]; omega), dif_pos (by omega), dif_pos (by omega)]
    exact congrArg c (Fin.ext (Nat.add_comm 1 i.val))
  · rw [if_neg h, if_neg (by simp only [decide_eq_true_eq]; omega)]

/-- A step by columns makes the next row of optimal costs. -/
theorem colStep_best (hx : ∀ j, x j ≠ ⊥) (k : ℕ) (hk : k < 16) (c : FVec Ideal S8x1x256 .f32)
    (h : ∀ b n, c (ix3 b 0 n) = best x b k n) (b : Fin 8) (n : Fin 256) :
    colStep (low x) c (BitVec.ofNat 32 (255 - k)) (ix3 b n 0) = best x b (k + 1) n := by
  pointwise [colStep, k0_pay7, colIx]
  simp only [mask_eq, inf_eq, low_apply, h]
  exact congrArg (fun f => (Finset.univ : Finset (Fin 256)).fold min ⊤ f) (funext fun i => by
    rw [masked_next (best x b k) k hk, masked_eq_add hx b (k + 1) (best_ne_bot hx b k)])

/-- A step by rows makes the next row of optimal costs. -/
theorem rowStep_best (hx : ∀ j, x j ≠ ⊥) (k : ℕ) (hk : k < 16) (c : FVec Ideal S8x256x1 .f32)
    (h : ∀ b n, c (ix3 b n 0) = best x b k n) (b : Fin 8) (n : Fin 256) :
    rowStep (k0_pay3 x) c (BitVec.ofNat 32 (255 - k)) (ix3 b 0 n) = best x b (k + 1) n := by
  pointwise [rowStep, rowIx]
  simp only [mask_eq, inf_eq, up_apply, h]
  exact congrArg (fun f => (Finset.univ : Finset (Fin 256)).fold min ⊤ f) (funext fun i => by
    rw [masked_next (best x b k) k hk, masked_eq_add hx b (k + 1) (best_ne_bot hx b k)])

/-! ## The rows, one by one -/

theorem c0_best (b : Fin 8) (n : Fin 256) : c0 x (ix3 b 0 n) = best x b 0 n := by
  have h : c0 x (ix3 b 0 n) = k0_pay3 x (ix3 b 255 n) := by pointwise [c0, k0_pay4]
  rw [h, up_apply, if_pos (by show n.val ≤ 255; omega)]; rfl

variable (hx : ∀ j, x j ≠ ⊥)
include hx

theorem c1_best : ∀ b n, c1 x (ix3 b n 0) = best x b 1 n := colStep_best hx 0 (by decide) (c0 x) c0_best
theorem c2_best : ∀ b n, c2 x (ix3 b 0 n) = best x b 2 n := rowStep_best hx 1 (by decide) (c1 x) (c1_best hx)
theorem c3_best : ∀ b n, c3 x (ix3 b n 0) = best x b 3 n := colStep_best hx 2 (by decide) (c2 x) (c2_best hx)
theorem c4_best : ∀ b n, c4 x (ix3 b 0 n) = best x b 4 n := rowStep_best hx 3 (by decide) (c3 x) (c3_best hx)
theorem c5_best : ∀ b n, c5 x (ix3 b n 0) = best x b 5 n := colStep_best hx 4 (by decide) (c4 x) (c4_best hx)
theorem c6_best : ∀ b n, c6 x (ix3 b 0 n) = best x b 6 n := rowStep_best hx 5 (by decide) (c5 x) (c5_best hx)
theorem c7_best : ∀ b n, c7 x (ix3 b n 0) = best x b 7 n := colStep_best hx 6 (by decide) (c6 x) (c6_best hx)
theorem c8_best : ∀ b n, c8 x (ix3 b 0 n) = best x b 8 n := rowStep_best hx 7 (by decide) (c7 x) (c7_best hx)
theorem c9_best : ∀ b n, c9 x (ix3 b n 0) = best x b 9 n := colStep_best hx 8 (by decide) (c8 x) (c8_best hx)
theorem c10_best : ∀ b n, c10 x (ix3 b 0 n) = best x b 10 n := rowStep_best hx 9 (by decide) (c9 x) (c9_best hx)
theorem c11_best : ∀ b n, c11 x (ix3 b n 0) = best x b 11 n := colStep_best hx 10 (by decide) (c10 x) (c10_best hx)
theorem c12_best : ∀ b n, c12 x (ix3 b 0 n) = best x b 12 n := rowStep_best hx 11 (by decide) (c11 x) (c11_best hx)
theorem c13_best : ∀ b n, c13 x (ix3 b n 0) = best x b 13 n := colStep_best hx 12 (by decide) (c12 x) (c12_best hx)
theorem c14_best : ∀ b n, c14 x (ix3 b 0 n) = best x b 14 n := rowStep_best hx 13 (by decide) (c13 x) (c13_best hx)

end Cert.KernelIdeal.Body

end
-- ==== Proof.Tables.lean ====
module

public import proofs.«01_k».proof.Proof.Steps
public import Idealize.ShloMosaic.Lib.Pipeline.ValueKit.Tiles

/-! # The kernel's tables on the extended reals

The rows of optimal costs put together: the first output, and the second scratch array. -/

@[expose] public section

noncomputable section

namespace Cert.KernelIdeal.Body

open Cert.KernelIdeal Cert.KernelIdeal.Gen Idealize.ShloMosaic Cert.Costs Idealize.ShloMosaic.WordCmp

/-- Eight columns, put side by side and turned into rows: the odd steps. -/
def oddRows (q0 q1 q2 q3 q4 q5 q6 q7 : FVec Ideal S8x256x1 .f32) : FVec Ideal S8x8x256 .f32 :=
  transpose S8x8x256 [0, 2, 1] (concatenate S8x256x8 2 [⟨S8x256x1, q0⟩, ⟨S8x256x1, q1⟩, ⟨S8x256x1, q2⟩, ⟨S8x256x1, q3⟩, ⟨S8x256x1, q4⟩, ⟨S8x256x1, q5⟩, ⟨S8x256x1, q6⟩, ⟨S8x256x1, q7⟩] concatenates_S8x256x1_S8x256x1_S8x256x1_S8x256x1_S8x256x1_S8x256x1_S8x256x1_S8x256x1_S8x256x8_d2) transposes_S8x256x8_p0_2_1_S8x8x256

/-- Eight rows and the eight rows of another array, in turn. -/
def allRows (r0 r1 r2 r3 r4 r5 r6 r7 : FVec Ideal S8x1x256 .f32) (o : FVec Ideal S8x8x256 .f32) : FVec Ideal S8x16x256 .f32 :=
  concatenate S8x16x256 1 [⟨S8x1x256, r0⟩, ⟨S8x1x256, extractStridedSlice S8x1x256 ![0, 0, 0] o slices_S8x8x256_o0_0_0_S8x1x256⟩, ⟨S8x1x256, r1⟩, ⟨S8x1x256, extractStridedSlice S8x1x256 ![0, 1, 0] o slices_S8x8x256_o0_1_0_S8x1x256⟩, ⟨S8x1x256, r2⟩, ⟨S8x1x256, extractStridedSlice S8x1x256 ![0, 2, 0] o slices_S8x8x256_o0_2_0_S8x1x256⟩, ⟨S8x1x256, r3⟩, ⟨S8x1x256, extractStridedSlice S8x1x256 ![0, 3, 0] o slices_S8x8x256_o0_3_0_S8x1x256⟩, ⟨S8x1x256, r4⟩, ⟨S8x1x256, extractStridedSlice S8x1x256 ![0, 4, 0] o slices_S8x8x256_o0_4_0_S8x1x256⟩, ⟨S8x1x256, r5⟩, ⟨S8x1x256, extractStridedSlice S8x1x256 ![0, 5, 0] o slices_S8x8x256_o0_5_0_S8x1x256⟩, ⟨S8x1x256, r6⟩, ⟨S8x1x256, extractStridedSlice S8x1x256 ![0, 6, 0] o slices_S8x8x256_o0_6_0_S8x1x256⟩, ⟨S8x1x256, r7⟩, ⟨S8x1x256, extractStridedSlice S8x1x256 ![0, 7, 0] o slices_S8x8x256_o0_7_0_S8x1x256⟩] concatenates_S8x1x256_S8x1x256_S8x1x256_S8x1x256_S8x1x256_S8x1x256_S8x1x256_S8x1x256_S8x1x256_S8x1x256_S8x1x256_S8x1x256_S8x1x256_S8x1x256_S8x1x256_S8x1x256_S8x16x256_d1

variable (f : Fin 8 → ℕ → Fin 256 → EReal)

/-- The odd steps at an index. -/
theorem oddRows_apply {q0 q1 q2 q3 q4 q5 q6 q7 : FVec Ideal S8x256x1 .f32}
    (h0 : ∀ b n, q0 (ix3 b n 0) = f b 1 n) (h1 : ∀ b n, q1 (ix3 b n 0) = f b 3 n) (h2 : ∀ b n, q2 (ix3 b n 0) = f b 5 n) (h3 : ∀ b n, q3 (ix3 b n 0) = f b 7 n) (h4 : ∀ b n, q4 (ix3 b n 0) = f b 9 n) (h5 : ∀ b n, q5 (ix3 b n 0) = f b 11 n) (h6 : ∀ b n, q6 (ix3 b n 0) = f b 13 n) (h7 : ∀ b n, q7 (ix3 b n 0) = f b 15 n)
    (b : Fin 8) (j : Fin 8) (n : Fin 256) : oddRows q0 q1 q2 q3 q4 q5 q6 q7 (ix3 b j n) = f b (2 * j.val + 1) n := by
  pointwise [oddRows]
  fin_vals j with hj
  all_goals simp only [hj, Nat.reduceSub, Nat.reduceLT, ↓reduceDIte]
  exacts [h0 b n, h1 b n, h2 b n, h3 b n, h4 b n, h5 b n, h6 b n, h7 b n]

/-- An index of a single row, from its coordinates. -/
theorem row_eq {b : Fin 8} {n : Fin 256} {i : S8x1x256.Idx} (h0 : (i 0).val = b.val) (h1 : (i 1).val = 0) (h2 : (i 2).val = n.val) :
    i = ix3 (n0 := 8) (n1 := 1) (n2 := 256) b 0 n := by
  funext a
  match a with
  | ⟨0, _⟩ => exact Fin.ext h0
  | ⟨1, _⟩ => exact Fin.ext h1
  | ⟨2, _⟩ => exact Fin.ext h2

/-- All steps at an index. -/
theorem allRows_apply {r0 r1 r2 r3 r4 r5 r6 r7 : FVec Ideal S8x1x256 .f32} {o : FVec Ideal S8x8x256 .f32}
    (g0 : ∀ b n, r0 (ix3 b 0 n) = f b 0 n) (g1 : ∀ b n, r1 (ix3 b 0 n) = f b 2 n) (g2 : ∀ b n, r2 (ix3 b 0 n) = f b 4 n) (g3 : ∀ b n, r3 (ix3 b 0 n) = f b 6 n) (g4 : ∀ b n, r4 (ix3 b 0 n) = f b 8 n) (g5 : ∀ b n, r5 (ix3 b 0 n) = f b 10 n) (g6 : ∀ b n, r6 (ix3 b 0 n) = f b 12 n) (g7 : ∀ b n, r7 (ix3 b 0 n) = f b 14 n)
    (ho : ∀ b (j : Fin 8) n, o (ix3 b j n) = f b (2 * j.val + 1) n)
    (b : Fin 8) (k : Fin 16) (n : Fin 256) : allRows r0 r1 r2 r3 r4 r5 r6 r7 o (ix3 b k n) = f b k.val n := by
  unfold allRows
  concat_tiles i h
  all_goals
    have hk : k.val = _ := h
    rw [hk, row_eq h0 h1 h2]
  exacts [g0 b n, (by pointwise : _ = o (ix3 b 0 n)).trans (ho b 0 n), g1 b n, (by pointwise : _ = o (ix3 b 1 n)).trans (ho b 1 n), g2 b n, (by pointwise : _ = o (ix3 b 2 n)).trans (ho b 2 n), g3 b n, (by pointwise : _ = o (ix3 b 3 n)).trans (ho b 3 n), g4 b n, (by pointwise : _ = o (ix3 b 4 n)).trans (ho b 4 n), g5 b n, (by pointwise : _ = o (ix3 b 5 n)).trans (ho b 5 n), g6 b n, (by pointwise : _ = o (ix3 b 6 n)).trans (ho b 6 n), g7 b n, (by pointwise : _ = o (ix3 b 7 n)).trans (ho b 7 n)]

variable {x : Vec Ideal S8x256x256 .f32}

/-- The rows of optimal costs as one array. -/
def crows (x : Vec Ideal S8x256x256 .f32) : FVec Ideal S8x16x256 .f32 :=
  k0_pay19 (low x) colIx (c0 x) (c1 x) (c2 x) (c3 x) (c4 x) (c5 x) (c6 x) (c7 x) (c8 x) (c9 x) (c10 x) (c11 x) (c12 x)
    (c13 x) (c14 x) 241#32

/-- They are the rows put together. -/
theorem crows_eq : crows x = allRows (c0 x) (c2 x) (c4 x) (c6 x) (c8 x) (c10 x) (c12 x) (c14 x)
    (oddRows (c1 x) (c3 x) (c5 x) (c7 x) (c9 x) (c11 x) (c13 x) (colStep (low x) (c14 x) 241#32)) := rfl

/-- Row `k` is the optimal costs with `k` further segments. -/
theorem crows_apply (hx : ∀ j, x j ≠ ⊥) (b : Fin 8) (k : Fin 16) (n : Fin 256) : crows x (ix3 b k n) = best x b k.val n := by
  rw [crows_eq]
  exact allRows_apply (best x) c0_best (c2_best hx) (c4_best hx) (c6_best hx) (c8_best hx) (c10_best hx) (c12_best hx) (c14_best hx)
    (oddRows_apply (best x) (c1_best hx) (c3_best hx) (c5_best hx) (c7_best hx) (c9_best hx) (c11_best hx) (c13_best hx)
      (colStep_best hx 14 (by decide) (c14 x) (c14_best hx))) b k n

/-- A row of a table shifted down by one row and left by one column, zero where there is nothing, masked. -/
theorem masked_shift (g : ℕ → Fin 256 → EReal) (k : Fin 16) (i : Fin 256) :
    Scalar.select (IntOp.andi (IntOp.cmpi .sge (BitVec.ofNat 32 k.val) 1#32)
        (IntOp.cmpi .slt (BitVec.ofNat 32 i.val) (IntOp.subi 256#32 (BitVec.ofNat 32 k.val))))
      (if h : k.val < 1 then 0 else if h1 : i.val < 255 then g (k.val - 1) ⟨1 + i.val, by omega⟩ else 0) ⊤
      = if 1 ≤ k.val ∧ i.val + k.val < 256 then next (g (k.val - 1)) i else ⊤ := by
  have h2 : IntOp.subi 256#32 (BitVec.ofNat 32 k.val) = BitVec.ofNat 32 (256 - k.val) := by
    unfold IntOp.subi
    apply BitVec.eq_of_toNat_eq
    simp only [BitVec.toNat_sub, BitVec.toNat_ofNat]
    omega
  rw [h2, cmpi_sge_ofNat (by omega) (by omega), cmpi_slt_ofNat (by omega) (by omega)]
  by_cases h1 : 1 ≤ k.val
  · by_cases h3 : i.val + k.val < 256
    · rw [decide_eq_true h1, decide_eq_true (by omega : i.val < 256 - k.val), if_pos (And.intro h1 h3), dif_neg (by omega), dif_pos (by omega)]
      unfold next
      rw [dif_pos (by omega)]
      exact congrArg (g (k.val - 1)) (Fin.ext (Nat.add_comm 1 i.val))
    · rw [decide_eq_false (by omega : ¬i.val < 256 - k.val), decide_eq_true h1,
        if_neg fun q : 1 ≤ k.val ∧ i.val + k.val < 256 => h3 q.2]; rfl
  · rw [decide_eq_false h1, if_neg fun q : 1 ≤ k.val ∧ i.val + k.val < 256 => h1 q.1]
    cases decide (i.val < 256 - k.val) <;> rfl

/-- The second scratch array at an index: the previous row shifted by one, masked. -/
theorem shifted_apply (hx : ∀ j, x j ≠ ⊥) (b : Fin 8) (k : Fin 16) (i : Fin 256) :
    shifted x (ix3 b k i) = if 1 ≤ k.val ∧ i.val + k.val < 256 then next (best x b (k.val - 1)) i else ⊤ := by
  unfold shifted k0_pay20
  rw [← crows]
  pointwise
  simp only [crows_apply hx, mask_eq]
  exact masked_shift (best x b) k i

/-- The first output at an index. -/
theorem table_apply (hx : ∀ j, x j ≠ ⊥) (b : Fin 8) (n : Fin 256) (k : Fin 16) : table x (ix3 b n k) = costs x b n k.val := by
  unfold table k0_pay21
  rw [← crows]
  pointwise [k0_pay22, k0_pay23, k0_pay24]
  have h2 : IntOp.addi (BitVec.ofNat 32 n.val) (BitVec.ofNat 32 k.val) = BitVec.ofNat 32 (n.val + k.val) := by
    unfold IntOp.addi
    apply BitVec.eq_of_toNat_eq
    simp only [BitVec.toNat_add, BitVec.toNat_ofNat]
    omega
  rw [crows_apply hx, h2, cmpi_sge_ofNat (by omega) (by omega), cmpi_sge_ofNat (by omega) (by omega)]
  unfold costs
  by_cases h1 : 1 ≤ k.val <;> by_cases h3 : 256 ≤ n.val + k.val
  · rw [decide_eq_true h1, decide_eq_true h3, if_pos ⟨h1, h3⟩]; rfl
  · rw [decide_eq_false h3, if_neg fun q : 1 ≤ k.val ∧ 256 ≤ n.val + k.val => h3 q.2, decide_eq_true h1]; rfl
  · rw [decide_eq_false h1, decide_eq_true h3, if_neg fun q : 1 ≤ k.val ∧ 256 ≤ n.val + k.val => h1 q.1]; rfl
  · rw [decide_eq_false h1, decide_eq_false h3, if_neg fun q : 1 ≤ k.val ∧ 256 ≤ n.val + k.val => h1 q.1]; rfl

end Cert.KernelIdeal.Body

end
-- ==== Proof.Arrays.lean ====
module

public import proofs.«01_k».proof.Proof.Launch
public import Idealize.ShloMosaic.Lib.Pointwise.Index

/-! # What the output arrays hold after the run

The first output is the table of optimal costs, written back once; the second is one block per grid point. -/

@[expose] public section

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The argument array. -/
abbrev arg (c : Dev nD) : Vec F S8x256x256 .f32 := m ((c : Thread nD τ).loc main_arg0)

/-- The first window's block index is zero. -/
theorem index_0 : win0_0.index t0_0 (0 : Fin 3) = 0 ∧ win0_0.index t0_0 (1 : Fin 3) = 0 ∧ win0_0.index t0_0 (2 : Fin 3) = 0 := by
  decide +kernel

/-- The input block is the argument array. -/
theorem inp_eq (c : Dev nD) : inp m c = arg m c := by
  funext y
  show arg m c (((cfg0.win 0).blk t0_0).view.emb y) = _
  obtain ⟨e0, e1, e2⟩ := index_0
  refine congrArg (arg m c) (funext fun a => Fin.ext ?_)
  match a with
  | ⟨0, _⟩ => show win0_0.index t0_0 (0 : Fin 3) * 8 + 1 * (y 0).val = _; rw [e0]; exact (by omega : 0 * 8 + 1 * (y 0).val = (y 0).val)
  | ⟨1, _⟩ => show win0_0.index t0_0 (1 : Fin 3) * 256 + 1 * (y 1).val = _; rw [e1]; exact (by omega : 0 * 256 + 1 * (y 1).val = (y 1).val)
  | ⟨2, _⟩ => show win0_0.index t0_0 (2 : Fin 3) * 256 + 1 * (y 2).val = _; rw [e2]; exact (by omega : 0 * 256 + 1 * (y 2).val = (y 2).val)

/-! ## The first output -/

/-- The first output's block index is zero at every point, and so is the second's but on the batch axis. -/
theorem index_1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of the array as one of the block. -/
theorem emb_1 (t : Fin cfg0.N) (y : S8x256x16.Idx) : ((cfg0.win 1).blk t).view.emb y = y := by
  obtain ⟨e0, e1, e2⟩ := index_1 t
  refine funext fun a => Fin.ext ?_
  match a with
  | ⟨0, _⟩ => show win0_1.index t (0 : Fin 3) * 8 + 1 * (y 0).val = _; rw [e0]; exact (by omega : 0 * 8 + 1 * (y 0).val = (y 0).val)
  | ⟨1, _⟩ => show win0_1.index t (1 : Fin 3) * 256 + 1 * (y 1).val = _; rw [e1]; exact (by omega : 0 * 256 + 1 * (y 1).val = (y 1).val)
  | ⟨2, _⟩ => show win0_1.index t (2 : Fin 3) * 16 + 1 * (y 2).val = _; rw [e2]; exact (by omega : 0 * 16 + 1 * (y 2).val = (y 2).val)

/-- The last point writes the table back. -/
theorem final_1 (c : Dev nD) : (dats m 0 c).arrAt 1 cfg0.N = table (inp m c) :=
  (dats m 0 c).arrAt_eq_of_cover 1 (table (inp m c))
    (fun t hf => by
      show (cfg0.win 1).cut (grid0.coords t) ((dats m 0 c).after 1 t) = _
      rw [after_1]
      funext y
      show table (inp m c) y = table (inp m c) (((cfg0.win 1).blk t).view.emb y)
      rw [emb_1])
    (fun i => ⟨t0_7, (flush0_1 t0_7).mpr rfl, by
      have h := emb_1 t0_7 i
      rw [← h]; exact View.emb_mem_set _ _⟩)

/-! ## The second output -/

/-- The point that writes an index of the second output back. -/
def point (i : S8x256x16x256.Idx) : Fin grid0.N := ⟨(i 0).val, lt_of_lt_of_eq (i 0).isLt N_0.symm⟩

/-- Its place in the point's block. -/
def place (i : S8x256x16x256.Idx) : S1x256x16x256.Idx := ix4 (n0 := 1) (n1 := 256) (n2 := 16) (n3 := 256) 0 (i 1) (i 2) (i 3)

/-- The second output: at each index what its point computes. -/
def softmins (x : Vec F S8x256x256 .f32) : Vec F S8x256x16x256 .f32 := fun i =>
  block (grid0.coords (point i)) (low x) (shifted x) (place i)

/-- Point `t` writes back batch `t`. -/
theorem index_2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- The array's index of a place in point `t`'s block, axis by axis. -/
theorem emb_2 (t : Fin cfg0.N) (y : S1x256x16x256.Idx) :
    (((cfg0.win 2).blk t).view.emb y 0).val = t.val ∧ ((cfg0.win 2).blk t).view.emb y 1 = y 1
      ∧ ((cfg0.win 2).blk t).view.emb y 2 = y 2 ∧ ((cfg0.win 2).blk t).view.emb y 3 = y 3 := by
  obtain ⟨e0, e1, e2, e3⟩ := index_2 t
  have h0 : (y 0).val < 1 := (y 0).isLt
  refine ⟨?_, Fin.ext ?_, Fin.ext ?_, Fin.ext ?_⟩
  · show win0_2.index t (0 : Fin 4) * 1 + 1 * (y 0).val = _; rw [e0]; omega
  · show win0_2.index t (1 : Fin 4) * 256 + 1 * (y 1).val = _; rw [e1]; omega
  · show win0_2.index t (2 : Fin 4) * 16 + 1 * (y 2).val = _; rw [e2]; omega
  · show win0_2.index t (3 : Fin 4) * 256 + 1 * (y 3).val = _; rw [e3]; omega

/-- A place's index in the array has that place. -/
theorem place_emb (t : Fin cfg0.N) (y : S1x256x16x256.Idx) : place (((cfg0.win 2).blk t).view.emb y) = y := by
  obtain ⟨e0, e1, e2, e3⟩ := emb_2 t y
  have h0 : (y 0).val < 1 := (y 0).isLt
  unfold place
  rw [e1, e2, e3]
  funext a; apply Fin.ext
  match a with
  | ⟨0, _⟩ => exact (by omega : 0 = (y 0).val)
  | ⟨1, _⟩ => rfl
  | ⟨2, _⟩ => rfl
  | ⟨3, _⟩ => rfl

/-- … and that point. -/
theorem point_emb (t : Fin cfg0.N) (y : S1x256x16x256.Idx) : point (((cfg0.win 2).blk t).view.emb y) = t :=
  Fin.ext (emb_2 t y).1

/-- Every index is in its point's block. -/
theorem emb_point (i : S8x256x16x256.Idx) : ((cfg0.win 2).blk (point i)).view.emb (place i) = i := by
  obtain ⟨e0, e1, e2, e3⟩ := emb_2 (point i) (place i)
  funext a
  match a with
  | ⟨0, _⟩ => exact Fin.ext e0
  | ⟨1, _⟩ => exact e1
  | ⟨2, _⟩ => exact e2
  | ⟨3, _⟩ => exact e3

/-- What a point computes at a place is the second output at the place's index. -/
theorem softmins_emb (x : Vec F S8x256x256 .f32) (t : Fin cfg0.N) (y : S1x256x16x256.Idx) :
    block (grid0.coords t) (low x) (shifted x) y = softmins x (((cfg0.win 2).blk t).view.emb y) := by
  unfold softmins
  rw [point_emb, place_emb]

/-- Every index is written back by its point. -/
theorem mem_2 (i : S8x256x16x256.Idx) : i ∈ ((cfg0.win 2).blk (point i)).view.set := by
  have h : ((cfg0.win 2).blk (point i)).view.emb (place i) ∈ ((cfg0.win 2).blk (point i)).view.set := View.emb_mem_set _ _
  rwa [emb_point] at h

/-- A block of an array whose every place is the array's index of it. -/
theorem read_2 (t : Fin cfg0.N) (X : Vec F S1x256x16x256 .f32) (G : Vec F S8x256x16x256 .f32)
    (h : ∀ y, X y = G (((cfg0.win 2).blk t).view.emb y)) :
    (cfg0.win 2).cut (grid0.coords t) X = ((cfg0.win 2).blk t).view.read (Elt F) G := by
  funext y
  exact h y

/-- What a point writes back. -/
theorem flushed_2 (c : Dev nD) (t : Fin cfg0.N) :
    (dats m 0 c).flushed 2 t = ((cfg0.win 2).blk t).view.read (Elt F) (softmins (inp m c)) :=
  (congrArg ((cfg0.win 2).cut (grid0.coords t)) (after_2 m c t)).trans (read_2 t _ _ (softmins_emb (inp m c) t))

/-- The blocks the points write back make the second output. -/
theorem final_2 (c : Dev nD) : (dats m 0 c).arrAt 2 cfg0.N = softmins (inp m c) :=
  (dats m 0 c).arrAt_eq_of_cover 2 (softmins (inp m c)) (fun t _ => flushed_2 m c t)
    (fun i => ⟨point i, flush0_2 _, mem_2 i⟩)

/-! ## The run -/

/-- Every execution ends with the two outputs at these values, the argument unchanged and the counters at zero. -/
theorem run : θ_run defs (onTc (τ := τ) (main (F := F))) ⟨m, fun _ => 0, ρ⟩ fun r => ∀ c : Dev nD,
      r.2.mem ((c : Thread nD τ).loc main_v0_0) = table (arg m c)
      ∧ r.2.mem ((c : Thread nD τ).loc main_v0_1) = softmins (arg m c)
      ∧ r.2.mem ((c : Thread nD τ).loc main_arg0) = m ((c : Thread nD τ).loc main_arg0) :=
  (θ_run defs _ _).mono (fun r h c => ⟨((h.1 c).1 1).trans ((final_1 m c).trans (by rw [inp_eq])),
      ((h.1 c).1 2).trans ((final_2 m c).trans (by rw [inp_eq])),
      ((h.1 c).1 0).trans (((dats m 0 c).arrAt_in 0 rfl _).trans ((A_eq m c 0).trans (V_main_arg0 m c)))⟩)
    (run_main m ρ)

end Cert.KernelIdeal.Body

end
-- ==== Proof.Softmin.lean ====
module

public import proofs.«01_k».proof.Proof.Costs
public import Idealize.ShloMosaic.Lib.Pointwise.Sums

/-! # The softmin on the extended reals

An entry as the kernel makes it from a row of candidates is the softmin's where the candidate is allowed, and the
candidates before the first allowed one may be left out. -/

@[expose] public section

noncomputable section

namespace Cert.Costs

open Idealize.ShloMosaic

/-- The exponential is not negative. -/
theorem exp_nonneg (y : EReal) : 0 ≤ Ideal.exp y := by
  induction y with
  | bot => exact le_refl _
  | top => exact le_top
  | coe r => exact EReal.coe_nonneg.2 (Real.exp_pos r).le

/-- The exponential is positive above `⊥`. -/
theorem exp_pos {y : EReal} (h : y ≠ ⊥) : 0 < Ideal.exp y := by
  induction y with
  | bot => exact absurd rfl h
  | top => exact EReal.zero_lt_top
  | coe r => exact EReal.coe_pos.2 (Real.exp_pos r)

/-- Where a candidate is finite the softmin's denominator is positive. -/
theorem sum_exp_pos {a : Fin 256 → EReal} (ha : ∀ j, a j ≠ ⊥) (i : Fin 256) (hi : a i ≠ ⊤) :
    0 < ∑ j, Ideal.exp ((Finset.univ : Finset (Fin 256)).fold min ⊤ a - a j) := by
  refine lt_of_lt_of_le (exp_pos ?_) (Finset.single_le_sum (f := fun j => Ideal.exp ((Finset.univ : Finset (Fin 256)).fold min ⊤ a - a j))
    (fun j _ => exp_nonneg _) (Finset.mem_univ i))
  rw [sub_eq_add_neg]
  exact EReal.add_ne_bot_iff.2 ⟨fold_ne_bot a ha, by simpa using hi⟩

/-- A product with a reciprocal as a quotient, where the denominator is not zero. -/
theorem mul_div_one {e s : EReal} (h : s ≠ 0) : e * Ideal.div 1 s = Ideal.div e s := by
  unfold Ideal.div
  rw [if_neg h, if_neg h, one_mul]

/-- The pattern of `1e8`. -/
theorem big_eq : Ideal.ofBits .f32 0x4CBEBC20#32 = ((100000000 : ℝ) : EReal) := by
  simp [Ideal.ofBits, Ideal.ieee, -EReal.coe_mul]
  norm_num

/-- The pattern of `-1`. -/
theorem neg_one_eq : Ideal.ofBits .f32 0xBF800000#32 = -1 := by
  simp [Ideal.ofBits, Ideal.ieee, -EReal.coe_mul]
  norm_num

/-- What the kernel makes of a row of candidates whose least is `m` and whose exponentials add to `s`. -/
def entry (k : Fin 16) (i : Fin 256) (a m s : EReal) : EReal :=
  if k.val = 0 ∧ i.val = 255 then 1
  else if a < Ideal.ofBits .f32 0x4CBEBC20#32 then Ideal.exp (m - a) * Ideal.div 1 s else -1

/-- The entry of an infinite candidate. -/
theorem entry_top (x : Mat) (b : Fin 8) (n : Fin 256) (k : Fin 16) (i : Fin 256) (m s : EReal)
    (h : ¬(1 ≤ k.val ∧ n.val ≤ i.val ∧ i.val + k.val < 256)) : entry k i ⊤ m s = weights x b n k.val i := by
  unfold entry weights
  by_cases hk : k.val = 0
  · simp [hk, big_eq]
  · rw [if_neg fun q : k.val = 0 ∧ i.val = 255 => hk q.1, if_neg hk,
      if_neg fun q : n.val ≤ i.val ∧ i.val + k.val < 256 => h ⟨by omega, q⟩, if_neg not_top_lt]

/-- The entry of a candidate is the weight at its index. -/
theorem entry_cand {x : Mat} (hx : ∀ j, x j ≠ ⊥) (hB : ∀ j, x j ≤ ((6000000 : ℝ) : EReal)) (b : Fin 8) (n : Fin 256) (k : Fin 16) (i : Fin 256) :
    entry k i (cand x b k.val n i) ((Finset.univ : Finset (Fin 256)).fold min ⊤ (cand x b k.val n))
      (∑ j, Ideal.exp ((Finset.univ : Finset (Fin 256)).fold min ⊤ (cand x b k.val n) - cand x b k.val n j)) = weights x b n k.val i := by
  by_cases h : 1 ≤ k.val ∧ n.val ≤ i.val ∧ i.val + k.val < 256
  · have hlt : cand x b k.val n i < ((100000000 : ℝ) : EReal) := by
      refine lt_of_le_of_lt (cand_le hB b k.val n i h.1 h.2) (EReal.coe_lt_coe_iff.2 ?_)
      have h16 : ((k.val + 1 : ℕ) : ℝ) ≤ 16 := by exact_mod_cast k.isLt
      nlinarith
    have hbot : ∀ j, cand x b k.val n j ≠ ⊥ := fun j => by
      unfold cand; split
      · exact top_ne_bot
      · exact masked_ne_bot hx b _ (best_ne_bot hx b _) n j
    have hs := sum_exp_pos hbot i (ne_top_of_lt hlt)
    unfold entry weights softmin
    rw [big_eq, if_neg fun q : k.val = 0 ∧ i.val = 255 => absurd q.1 (by omega), if_pos hlt, if_neg (by omega), if_pos h.2,
      mul_div_one hs.ne']
  · rw [cand_top x b k.val n i h]
    exact entry_top x b n k i _ _ h

/-- The least candidate of a row past the first half is in the second half. -/
theorem fold_half (a : Fin 256 → EReal) (h : ∀ j : Fin 256, j.val < 128 → a j = ⊤) :
    ((Finset.univ : Finset (Fin 128)).fold min ⊤ fun j => a ⟨128 + j.val, by omega⟩) = (Finset.univ : Finset (Fin 256)).fold min ⊤ a := by
  refine eq_of_forall_le_iff fun c => ?_
  rw [Finset.le_fold_min, Finset.le_fold_min]
  refine and_congr_right fun _ => ⟨fun q j _ => ?_, fun q j _ => q _ (Finset.mem_univ _)⟩
  by_cases hj : j.val < 128
  · rw [h j hj]; exact le_top
  · have e : j = ⟨128 + (⟨j.val - 128, by omega⟩ : Fin 128).val, by simp only []; omega⟩ := Fin.ext (by simp only []; omega)
    rw [e]
    exact q ⟨j.val - 128, by omega⟩ (Finset.mem_univ _)

/-- Likewise the sum of the exponentials. -/
theorem sum_half (a : Fin 256 → EReal) (m : EReal) (h : ∀ j : Fin 256, j.val < 128 → a j = ⊤) :
    ∑ j : Fin 128, Ideal.exp (m - a ⟨128 + j.val, by omega⟩) = ∑ j, Ideal.exp (m - a j) := by
  rw [Fin.sum_univ_two_halves 128 128 rfl (fun j : Fin 256 => Ideal.exp (m - a j))]
  rw [Finset.sum_eq_zero (s := (Finset.univ : Finset (Fin 128))) (f := fun j => Ideal.exp (m - a ⟨j.val, _⟩)), zero_add]
  intro j _
  rw [h _ j.isLt, EReal.sub_top]
  rfl

end Cert.Costs
-- ==== Proof.Block.lean ====
module

public import proofs.«01_k».proof.Proof.Tables
public import proofs.«01_k».proof.Proof.Arrays
public import proofs.«01_k».proof.Proof.Softmin
public import Idealize.ShloMosaic.Lib.Pipeline.ValueKit.Tiles

/-! # The second output at an index

Each point's block holds the softmin of the candidates of its batch: the first 128 rows over all columns, the last 128
over the last 128 columns, the others being masked there. -/

@[expose] public section

noncomputable section

namespace Cert.KernelIdeal.Body

open Cert.KernelIdeal Cert.KernelIdeal.Gen Idealize.ShloMosaic Cert.Costs Idealize.ShloMosaic.WordCmp

/-- An index of an array of four axes, from its coordinates. -/
theorem quad_eq {n0 n1 n2 n3 : ℕ} {y : (⟨4, ![n0, n1, n2, n3]⟩ : Shape).Idx} {p : Fin n0} {q : Fin n1} {r : Fin n2} {s : Fin n3}
    (h0 : p.val = (y 0).val) (h1 : q.val = (y 1).val) (h2 : r.val = (y 2).val) (h3 : s.val = (y 3).val) : y = ix4 p q r s := by
  funext a
  match a with
  | ⟨0, _⟩ => exact Fin.ext h0.symm
  | ⟨1, _⟩ => exact Fin.ext h1.symm
  | ⟨2, _⟩ => exact Fin.ext h2.symm
  | ⟨3, _⟩ => exact Fin.ext h3.symm

/-- The offsets of the loads of the scratch arrays at point `t`. -/
theorem off_1 : ∀ t : Fin grid0.N, k0_off1 (grid0.coords t) 0 = t.val ∧ k0_off1 (grid0.coords t) 1 = 0 ∧ k0_off1 (grid0.coords t) 2 = 0 := by
  decide +kernel
theorem off_2 : ∀ t : Fin grid0.N, k0_off2 (grid0.coords t) 0 = t.val ∧ k0_off2 (grid0.coords t) 1 = 0 ∧ k0_off2 (grid0.coords t) 2 = 0 := by
  decide +kernel
theorem off_4 : ∀ t : Fin grid0.N, k0_off4 (grid0.coords t) 0 = t.val ∧ k0_off4 (grid0.coords t) 1 = 128 ∧ k0_off4 (grid0.coords t) 2 = 128 := by
  decide +kernel

/-- A point's slab at an index. -/
theorem slab_apply (b : Fin 8) (t : Fin grid0.N) (ht : t.val = b.val) (s : Vec Ideal S8x16x256 .f32) (k : Fin 16) (i : Fin 256) :
    slab (grid0.coords t) s (ix3 0 k i) = s (ix3 b k i) := by
  obtain ⟨e0, e1, e2⟩ := off_1 t
  refine View.ld_unit_apply_of s _ _ _ _ _ fun a => ?_
  match a with
  | ⟨0, _⟩ => show b.val = k0_off1 (grid0.coords t) 0 + 0; omega
  | ⟨1, _⟩ => show k.val = k0_off1 (grid0.coords t) 1 + k.val; omega
  | ⟨2, _⟩ => show i.val = k0_off1 (grid0.coords t) 2 + i.val; omega

/-- A point's first 128 rows at an index. -/
theorem rowsLo_apply (b : Fin 8) (t : Fin grid0.N) (ht : t.val = b.val) (l : Vec Ideal S8x256x256 .f32) (n : Fin 128) (i : Fin 256) :
    rowsLo (grid0.coords t) l (ix3 0 n i) = l (ix3 b ⟨n.val, by omega⟩ i) := by
  obtain ⟨e0, e1, e2⟩ := off_2 t
  refine View.ld_unit_apply_of l _ _ _ _ _ fun a => ?_
  match a with
  | ⟨0, _⟩ => show b.val = k0_off2 (grid0.coords t) 0 + 0; omega
  | ⟨1, _⟩ => show n.val = k0_off2 (grid0.coords t) 1 + n.val; omega
  | ⟨2, _⟩ => show i.val = k0_off2 (grid0.coords t) 2 + i.val; omega

/-- A point's last 128 rows at an index. -/
theorem rowsHi_apply (b : Fin 8) (t : Fin grid0.N) (ht : t.val = b.val) (l : Vec Ideal S8x256x256 .f32) (n i : Fin 128) :
    rowsHi (grid0.coords t) l (ix3 0 n i) = l (ix3 b ⟨128 + n.val, by omega⟩ ⟨128 + i.val, by omega⟩) := by
  obtain ⟨e0, e1, e2⟩ := off_4 t
  refine View.ld_unit_apply_of l _ _ _ _ _ fun a => ?_
  match a with
  | ⟨0, _⟩ => show b.val = k0_off4 (grid0.coords t) 0 + 0; omega
  | ⟨1, _⟩ => show 128 + n.val = k0_off4 (grid0.coords t) 1 + n.val; omega
  | ⟨2, _⟩ => show 128 + i.val = k0_off4 (grid0.coords t) 2 + i.val; omega

/-- The mask of the one fixed entry of step 0. -/
theorem fixed_eq (k i : ℕ) (hk : k < 16) (hi : i < 256) (a b : EReal) :
    Scalar.select (IntOp.andi (IntOp.cmpi .eq (BitVec.ofNat 32 k) 0#32) (IntOp.cmpi .eq (BitVec.ofNat 32 i) 255#32)) a b
      = if k = 0 ∧ i = 255 then a else b := by
  rw [cmpi_eq_ofNat (by omega) (by omega), cmpi_eq_ofNat (by omega) (by omega), andi_ofBool, select_ofBool]
  simp only [Bool.and_eq_true, decide_eq_true_eq]

/-- The first 128 rows at an index. -/
theorem lower_apply (v : Vec Ideal S1x16x256 .f32) (w : Vec Ideal S1x128x256 .f32) (n : Fin 128) (k : Fin 16) (i : Fin 256) :
    k0_pay28 (k0_pay27 v w) (ix4 0 n k i) = entry k i (w (ix3 0 n i) + v (ix3 0 k i))
      ((Finset.univ : Finset (Fin 256)).fold min ⊤ fun j => w (ix3 0 n j) + v (ix3 0 k j))
      (∑ j, Ideal.exp ((Finset.univ : Finset (Fin 256)).fold min ⊤ (fun j => w (ix3 0 n j) + v (ix3 0 k j)) - (w (ix3 0 n j) + v (ix3 0 k j)))) := by
  pointwise [k0_pay28, k0_pay27, k0_pay26, k0_pay25]
  rw [inf_eq, neg_one_eq, fixed_eq _ _ (by omega) (by omega)]
  rfl

/-- The last 128 rows at an index of the last 128 columns. -/
theorem upper_apply (v : Vec Ideal S1x16x256 .f32) (w : Vec Ideal S1x128x128 .f32) (n : Fin 128) (k : Fin 16) (i : Fin 128) :
    k0_pay1 (k0_pay29 (k0_pay25 v) k0_pay26 w) (ix4 0 n k i) = entry k ⟨128 + i.val, by omega⟩ (w (ix3 0 n i) + v (ix3 0 k ⟨128 + i.val, by omega⟩))
      ((Finset.univ : Finset (Fin 128)).fold min ⊤ fun j => w (ix3 0 n j) + v (ix3 0 k ⟨128 + j.val, by omega⟩))
      (∑ j : Fin 128, Ideal.exp ((Finset.univ : Finset (Fin 128)).fold min ⊤ (fun j => w (ix3 0 n j) + v (ix3 0 k ⟨128 + j.val, by omega⟩)) - (w (ix3 0 n j) + v (ix3 0 k ⟨128 + j.val, by omega⟩)))) := by
  pointwise [k0_pay1, k0_pay29, k0_pay26, k0_pay25]
  rw [inf_eq, neg_one_eq, fixed_eq _ _ (by omega) (by omega)]
  rfl

/-- The fill. -/
theorem fill_apply (n : Fin 128) (k : Fin 16) (i : Fin 128) : k0_pay30 (F := Ideal) (ix4 0 n k i) = -1 := by
  pointwise [k0_pay30]
  exact neg_one_eq

variable {x : Vec Ideal S8x256x256 .f32}

/-- The second output at an index: the weight there. -/
theorem softmins_apply (hx : ∀ j, x j ≠ ⊥) (hB : ∀ j, x j ≤ ((6000000 : ℝ) : EReal)) (b : Fin 8) (n : Fin 256) (k : Fin 16) (i : Fin 256) :
    softmins x (ix4 b n k i) = weights x b n k.val i := by
  have ha (n i : Fin 256) : low x (ix3 b n i) + shifted x (ix3 b k i) = cand x b k.val n i := by
    rw [low_apply, shifted_apply hx]
    exact cand_eq_add hx b k.val n i
  have ht : (point (ix4 b n k i)).val = b.val := rfl
  show block (grid0.coords (point (ix4 b n k i))) (low x) (shifted x) (ix4 0 n k i) = _
  generalize point (ix4 b n k i) = t at ht
  unfold block pieces
  canon_tiles y h using pieces_cover (grid0.coords t) (low x) (shifted x) _
  · have hn : n.val = 128 + (y 1).val := h1
    have hk : k.val = (y 2).val := h2
    have hi : i.val = 128 + (y 3).val := h3
    obtain ⟨n', en⟩ : ∃ n' : Fin 128, n'.val = (y 1).val := ⟨⟨(y 1).val, y1_lt⟩, rfl⟩
    obtain ⟨i', ei⟩ : ∃ i' : Fin 128, i'.val = (y 3).val := ⟨⟨(y 3).val, y3_lt⟩, rfl⟩
    rw [show y = ix4 (0 : Fin 1) n' k i' from quad_eq (by show 0 = _; omega) en hk ei, upper_apply]
    obtain rfl : i = ⟨128 + i'.val, Nat.add_lt_add_left i'.isLt 128⟩ := Fin.ext (by show i.val = 128 + i'.val; omega)
    obtain rfl : n = ⟨128 + n'.val, Nat.add_lt_add_left n'.isLt 128⟩ := Fin.ext (by show n.val = 128 + n'.val; omega)
    have hlt (j : Fin 256) (hj : j.val < 128) : cand x b k.val ⟨128 + n'.val, by omega⟩ j = ⊤ :=
      cand_top x b k.val _ j fun q => absurd q.2.1 (by simp only []; omega)
    simp only [rowsHi_apply b t ht, slab_apply b t ht, ha]
    rw [fold_half _ hlt, sum_half _ _ hlt]
    exact entry_cand hx hB b _ k _
  · have hn : n.val = 128 + (y 1).val := h1
    have hk : k.val = (y 2).val := h2
    have hi : i.val = (y 3).val := h3
    rw [show y = ix4 (0 : Fin 1) (⟨(y 1).val, y1_lt⟩ : Fin 128) k (⟨(y 3).val, y3_lt⟩ : Fin 128) from quad_eq (by show 0 = _; omega) rfl hk rfl, fill_apply]
    unfold weights
    rw [if_neg fun q : n.val ≤ i.val ∧ i.val + k.val < 256 => absurd q.1 (by omega), if_neg (show ¬i.val = 255 by omega), ite_self]
  · have hn : n.val = (y 1).val := h1
    have hk : k.val = (y 2).val := h2
    have hi : i.val = (y 3).val := h3
    obtain ⟨n', en⟩ : ∃ n' : Fin 128, n'.val = (y 1).val := ⟨⟨(y 1).val, y1_lt⟩, rfl⟩
    rw [show y = ix4 (0 : Fin 1) n' k i from quad_eq (by show 0 = _; omega) en hk hi, lower_apply]
    obtain rfl : n = ⟨n'.val, lt_trans n'.isLt (by decide)⟩ := Fin.ext (by show n.val = n'.val; omega)
    simp only [rowsLo_apply b t ht, slab_apply b t ht, ha]
    exact entry_cand hx hB b _ k i

end Cert.KernelIdeal.Body
-- ==== Proof.Scatters.lean ====
module

public import proofs.«01_k».proof.Proof.Gen.ReferenceIdeal.Run
public import Idealize.ShloMosaic.Lib.Routing.OpsSet
public import Idealize.ShloMosaic.Lib.WordCmp
public import Idealize.ShloMosaic.Lib.Pointwise

/-! # The reference's scatters at an index

Each writes one column of one of the two tables, or one entry of each row of the first column. -/

@[expose] public section

noncomputable section

namespace Cert.ReferenceIdeal.Steps

open Cert.ReferenceIdeal Idealize.ShloMosaic Idealize.ShloMosaic.Routing

/-- The scatters' dimensions: of a column of costs, of a column of weights, of one entry of each row of weights. -/
abbrev colD := scatter_S8x256x16_S1_S8x256_01_2_2_0
abbrev allD := scatter_S8x256x16x256_S1_S8x256x256_012_2_2_0
abbrev oneD := scatter_S8x256x16x256_S2_S8x256_01_23_23_0

/-- Where an update of a column of the cost table lands. -/
theorem col_lands (k : Fin 16) (idx : IVec S1 32) (hidx : ∀ i, idx i = BitVec.ofNat 32 k.val) (u : S8x256.Idx) (b : Fin 8) (n : Fin 256) (j : Fin 16) :
    ScatterDims.resultIdx? colD u idx = some (ix3 b n j) ↔ u = ix2 b n ∧ j = k := by
  have h0 : ScatterDims.start colD u idx 0 = 0 := rfl
  have h1 : ScatterDims.start colD u idx 1 = 0 := rfl
  have h2 : ScatterDims.start colD u idx 2 = k.val := (congrArg BitVec.toInt (hidx _)).trans (WordCmp.toInt_ofNat_of_lt (by omega))
  have w0 : ScatterDims.window colD u 0 = (u 0).val := rfl
  have w1 : ScatterDims.window colD u 1 = (u 1).val := rfl
  have w2 : ScatterDims.window colD u 2 = 0 := rfl
  rw [resultIdx?_eq_some]
  constructor
  · intro h
    have e0 : (0 : Int) + ((u 0).val : Int) = (b.val : Int) := by have := h 0; rwa [h0, w0] at this
    have e1 : (0 : Int) + ((u 1).val : Int) = (n.val : Int) := by have := h 1; rwa [h1, w1] at this
    have e2 : (k.val : Int) + ((0 : ℕ) : Int) = (j.val : Int) := by have := h 2; rwa [h2, w2] at this
    refine ⟨funext fun a => ?_, Fin.ext (by omega)⟩
    match a with
    | ⟨0, _⟩ => exact Fin.ext (by show (u 0).val = b.val; omega)
    | ⟨1, _⟩ => exact Fin.ext (by show (u 1).val = n.val; omega)
  · rintro ⟨rfl, rfl⟩ a
    match a with
    | ⟨0, _⟩ =>
      refine (congrArg₂ (fun (p : Int) (q : ℕ) => p + (q : Int)) h0 w0).trans ?_
      show (0 : Int) + (b.val : Int) = (b.val : Int)
      omega
    | ⟨1, _⟩ =>
      refine (congrArg₂ (fun (p : Int) (q : ℕ) => p + (q : Int)) h1 w1).trans ?_
      show (0 : Int) + (n.val : Int) = (n.val : Int)
      omega
    | ⟨2, _⟩ =>
      refine (congrArg₂ (fun (p : Int) (q : ℕ) => p + (q : Int)) h2 w2).trans ?_
      show (j.val : Int) + ((0 : ℕ) : Int) = (j.val : Int)
      omega

/-- Where an update of a column of the weights lands. -/
theorem all_lands (k : Fin 16) (idx : IVec S1 32) (hidx : ∀ i, idx i = BitVec.ofNat 32 k.val) (u : S8x256x256.Idx) (b : Fin 8) (n : Fin 256) (j : Fin 16) (i : Fin 256) :
    ScatterDims.resultIdx? allD u idx = some (ix4 b n j i) ↔ u = ix3 b n i ∧ j = k := by
  have h0 : ScatterDims.start allD u idx 0 = 0 := rfl
  have h1 : ScatterDims.start allD u idx 1 = 0 := rfl
  have h2 : ScatterDims.start allD u idx 2 = k.val := (congrArg BitVec.toInt (hidx _)).trans (WordCmp.toInt_ofNat_of_lt (by omega))
  have h3 : ScatterDims.start allD u idx 3 = 0 := rfl
  have w0 : ScatterDims.window allD u 0 = (u 0).val := rfl
  have w1 : ScatterDims.window allD u 1 = (u 1).val := rfl
  have w2 : ScatterDims.window allD u 2 = 0 := rfl
  have w3 : ScatterDims.window allD u 3 = (u 2).val := rfl
  rw [resultIdx?_eq_some]
  constructor
  · intro h
    have e0 : (0 : Int) + ((u 0).val : Int) = (b.val : Int) := by have := h 0; rwa [h0, w0] at this
    have e1 : (0 : Int) + ((u 1).val : Int) = (n.val : Int) := by have := h 1; rwa [h1, w1] at this
    have e2 : (k.val : Int) + ((0 : ℕ) : Int) = (j.val : Int) := by have := h 2; rwa [h2, w2] at this
    have e3 : (0 : Int) + ((u 2).val : Int) = (i.val : Int) := by have := h 3; rwa [h3, w3] at this
    refine ⟨funext fun a => ?_, Fin.ext (by omega)⟩
    match a with
    | ⟨0, _⟩ => exact Fin.ext (by show (u 0).val = b.val; omega)
    | ⟨1, _⟩ => exact Fin.ext (by show (u 1).val = n.val; omega)
    | ⟨2, _⟩ => exact Fin.ext (by show (u 2).val = i.val; omega)
  · rintro ⟨rfl, rfl⟩ a
    match a with
    | ⟨0, _⟩ =>
      refine (congrArg₂ (fun (p : Int) (q : ℕ) => p + (q : Int)) h0 w0).trans ?_
      show (0 : Int) + (b.val : Int) = (b.val : Int)
      omega
    | ⟨1, _⟩ =>
      refine (congrArg₂ (fun (p : Int) (q : ℕ) => p + (q : Int)) h1 w1).trans ?_
      show (0 : Int) + (n.val : Int) = (n.val : Int)
      omega
    | ⟨2, _⟩ =>
      refine (congrArg₂ (fun (p : Int) (q : ℕ) => p + (q : Int)) h2 w2).trans ?_
      show (j.val : Int) + ((0 : ℕ) : Int) = (j.val : Int)
      omega
    | ⟨3, _⟩ =>
      refine (congrArg₂ (fun (p : Int) (q : ℕ) => p + (q : Int)) h3 w3).trans ?_
      show (0 : Int) + (i.val : Int) = (i.val : Int)
      omega

/-- Where an update of the last entries of the first step's weights lands. -/
theorem one_lands (idx : IVec S2 32) (hz : idx (ix1 0) = BitVec.ofNat 32 0) (hl : idx (ix1 1) = BitVec.ofNat 32 255) (u : S8x256.Idx) (b : Fin 8) (n : Fin 256) (j : Fin 16) (i : Fin 256) :
    ScatterDims.resultIdx? oneD u idx = some (ix4 b n j i) ↔ u = ix2 b n ∧ j.val = 0 ∧ i.val = 255 := by
  have h0 : ScatterDims.start oneD u idx 0 = 0 := rfl
  have h1 : ScatterDims.start oneD u idx 1 = 0 := rfl
  have h2 : ScatterDims.start oneD u idx 2 = ((0 : ℕ) : Int) := (congrArg BitVec.toInt ((congrArg idx (funext fun a => by match a with | ⟨0, _⟩ => rfl)).trans hz)).trans (WordCmp.toInt_ofNat_of_lt (by omega))
  have h3 : ScatterDims.start oneD u idx 3 = ((255 : ℕ) : Int) := (congrArg BitVec.toInt ((congrArg idx (funext fun a => by match a with | ⟨0, _⟩ => rfl)).trans hl)).trans (WordCmp.toInt_ofNat_of_lt (by omega))
  have w0 : ScatterDims.window oneD u 0 = (u 0).val := rfl
  have w1 : ScatterDims.window oneD u 1 = (u 1).val := rfl
  have w2 : ScatterDims.window oneD u 2 = 0 := rfl
  have w3 : ScatterDims.window oneD u 3 = 0 := rfl
  rw [resultIdx?_eq_some]
  constructor
  · intro h
    have e0 : (0 : Int) + ((u 0).val : Int) = (b.val : Int) := by have := h 0; rwa [h0, w0] at this
    have e1 : (0 : Int) + ((u 1).val : Int) = (n.val : Int) := by have := h 1; rwa [h1, w1] at this
    have e2 : (((0 : ℕ) : Int) : Int) + ((0 : ℕ) : Int) = (j.val : Int) := by have := h 2; rwa [h2, w2] at this
    have e3 : (((255 : ℕ) : Int) : Int) + ((0 : ℕ) : Int) = (i.val : Int) := by have := h 3; rwa [h3, w3] at this
    refine ⟨funext fun a => ?_, by omega, by omega⟩
    match a with
    | ⟨0, _⟩ => exact Fin.ext (by show (u 0).val = b.val; omega)
    | ⟨1, _⟩ => exact Fin.ext (by show (u 1).val = n.val; omega)
  · rintro ⟨rfl, hj, hi⟩ a
    match a with
    | ⟨0, _⟩ =>
      refine (congrArg₂ (fun (p : Int) (q : ℕ) => p + (q : Int)) h0 w0).trans ?_
      show (0 : Int) + (b.val : Int) = (b.val : Int)
      omega
    | ⟨1, _⟩ =>
      refine (congrArg₂ (fun (p : Int) (q : ℕ) => p + (q : Int)) h1 w1).trans ?_
      show (0 : Int) + (n.val : Int) = (n.val : Int)
      omega
    | ⟨2, _⟩ =>
      refine (congrArg₂ (fun (p : Int) (q : ℕ) => p + (q : Int)) h2 w2).trans ?_
      show (((0 : ℕ) : Int) : Int) + ((0 : ℕ) : Int) = (j.val : Int)
      omega
    | ⟨3, _⟩ =>
      refine (congrArg₂ (fun (p : Int) (q : ℕ) => p + (q : Int)) h3 w3).trans ?_
      show (((255 : ℕ) : Int) : Int) + ((0 : ℕ) : Int) = (i.val : Int)
      omega

/-- The cost table with a column written, at an index. -/
theorem col_apply (k : Fin 16) (C : FVec Ideal S8x256x16 .f32) (idx : IVec S1 32) (hidx : ∀ i, idx i = BitVec.ofNat 32 k.val)
    (upd : FVec Ideal S8x256 .f32) (b : Fin 8) (n : Fin 256) (j : Fin 16) :
    Host.scatter colD (fun _ b => b) C idx upd (ix3 b n j) = if j = k then upd (ix2 b n) else C (ix3 b n j) := by
  split
  · next h =>
    exact scatter_set_hit _ C idx upd _ _ (fun u hu => by rw [((col_lands k idx hidx u b n j).1 hu).1]) (ix2 b n) ((col_lands k idx hidx _ b n j).2 ⟨rfl, h⟩)
  · next h => exact scatter_set_miss _ C idx upd _ fun u hu => h ((col_lands k idx hidx u b n j).1 hu).2

/-- The weights with a column written, at an index. -/
theorem all_apply (k : Fin 16) (A : FVec Ideal S8x256x16x256 .f32) (idx : IVec S1 32) (hidx : ∀ i, idx i = BitVec.ofNat 32 k.val)
    (upd : FVec Ideal S8x256x256 .f32) (b : Fin 8) (n : Fin 256) (j : Fin 16) (i : Fin 256) :
    Host.scatter allD (fun _ b => b) A idx upd (ix4 b n j i) = if j = k then upd (ix3 b n i) else A (ix4 b n j i) := by
  split
  · next h =>
    exact scatter_set_hit _ A idx upd _ _ (fun u hu => by rw [((all_lands k idx hidx u b n j i).1 hu).1]) (ix3 b n i) ((all_lands k idx hidx _ b n j i).2 ⟨rfl, h⟩)
  · next h => exact scatter_set_miss _ A idx upd _ fun u hu => h ((all_lands k idx hidx u b n j i).1 hu).2

/-- The weights with the first step's last entries written, at an index. -/
theorem one_apply (A : FVec Ideal S8x256x16x256 .f32) (idx : IVec S2 32) (hz : idx (ix1 0) = BitVec.ofNat 32 0) (hl : idx (ix1 1) = BitVec.ofNat 32 255)
    (upd : FVec Ideal S8x256 .f32) (b : Fin 8) (n : Fin 256) (j : Fin 16) (i : Fin 256) :
    Host.scatter oneD (fun _ b => b) A idx upd (ix4 b n j i) = if j.val = 0 ∧ i.val = 255 then upd (ix2 b n) else A (ix4 b n j i) := by
  split
  · next h =>
    exact scatter_set_hit _ A idx upd _ _ (fun u hu => by rw [((one_lands idx hz hl u b n j i).1 hu).1]) (ix2 b n) ((one_lands idx hz hl _ b n j i).2 ⟨rfl, h⟩)
  · next h => exact scatter_set_miss _ A idx upd _ fun u hu => h ((one_lands idx hz hl u b n j i).1 hu).2

end Cert.ReferenceIdeal.Steps
-- ==== Proof.RefSteps.lean ====
module

public import proofs.«01_k».proof.Proof.Scatters
public import proofs.«01_k».proof.Proof.Softmin

/-! # The reference's steps on the extended reals

One step of the reference from the previous column of costs: the masked candidates, their least and their softmin,
each read at an index. -/

@[expose] public section

noncomputable section

namespace Cert.ReferenceIdeal.Steps

open Cert.ReferenceIdeal Cert.ReferenceIdeal.Gen Idealize.ShloMosaic Cert.Costs Idealize.ShloMosaic.WordCmp

/-- The row numbers as a column and the column numbers as a row. -/
def rowIx : IVec S256x1 32 := broadcastInDim S256x1 ![0] bcast_S256_S256x1_0 (iotaInDim S256 32 0)
def colIx : IVec S1x256 32 := broadcastInDim S1x256 ![1] bcast_S256_S1x256_1 (iotaInDim S256 32 0)

/-- Which columns a row may end its first segment at, the columns bounded by `w`. -/
def valid (w : BitVec 32) : IVec S256x256 1 :=
  andi (cmpi .sge (broadcastInDim S256x256 ![0, 1] bcast_S1x256_S256x256_0_1 colIx) (broadcastInDim S256x256 ![0, 1] bcast_S256x1_S256x256_0_1 rowIx))
    (broadcastInDim S256x256 ![0, 1] bcast_S1x256_S256x256_0_1 (cmpi .slt colIx (broadcastInDim S1x256 ![] bcast_S_S1x256 (constantI S_ 32 w))))

/-- Which rows have room, bounded by `w`. -/
def room (w : BitVec 32) : IVec S256 1 :=
  cmpi .slt (shapeCast _ rowIx shapeCasts_S256x1_S256) (broadcastInDim S256 ![] bcast_S_S256 (constantI S_ 32 w))

/-- The candidates of every row, from the previous column of costs. -/
def cands (x : FVec Ideal S8x256x256 .f32) (v : IVec S256x256 1) (p : FVec Ideal S8x256 .f32) : FVec Ideal S8x256x256 .f32 :=
  select (broadcastInDim S8x256x256 ![0, 1, 2] bcast_S1x256x256_S8x256x256_0_1_2 (broadcastInDim S1x256x256 ![1, 2] bcast_S256x256_S1x256x256_1_2 v))
    (addf x (broadcastInDim S8x256x256 ![0, 1, 2] bcast_S8x1x256_S8x256x256_0_1_2 (broadcastInDim S8x1x256 ![0, 2] bcast_S8x256_S8x1x256_0_2
      (concatenate S8x256 1 [⟨S8x255, extractStridedSlice S8x255 ![0, 1] p slices_S8x256_S8x255_0_1⟩,
        ⟨S8x1, broadcastInDim S8x1 ![] bcast_S_S8x1 (constant S_ .f32 0x00000000#32)⟩] concatenates_S8x255_S8x1_S8x256_d1))))
    (broadcastInDim S8x256x256 ![] bcast_S_S8x256x256 (id (constant S_ .f32 0x7F800000#32)))

/-- The next column of costs: the least candidates where there is room. -/
def leasts (r : IVec S256 1) (s : FVec Ideal S8x256x256 .f32) (old : FVec Ideal S8x256 .f32) : FVec Ideal S8x256 .f32 :=
  select (broadcastInDim S8x256 ![0, 1] bcast_S1x256_S8x256_0_1 (broadcastInDim S1x256 ![1] bcast_S256_S1x256_1 r))
    (Host.reduce FloatOps.minimumf s (constant S_ .f32 0x7F800000#32) reducesTo_S8x256x256_S8x256_d2 h_S_) old

/-- The exponentials of the negated candidates over their greatest. -/
def exps (s : FVec Ideal S8x256x256 .f32) : FVec Ideal S8x256x256 .f32 :=
  Host.exp (subf (Host.negf s) (broadcastInDim S8x256x256 ![0, 1, 2] bcast_S8x256x1_S8x256x256_0_1_2 (broadcastInDim S8x256x1 ![0, 1] bcast_S8x256_S8x256x1_0_1
    (maximumf (broadcastInDim S8x256 ![] bcast_S_S8x256 (constant S_ .f32 0xFF800000#32))
      (Host.reduce FloatOps.maximumf (Host.negf s) (constant S_ .f32 0xFF800000#32) reducesTo_S8x256x256_S8x256_d2 h_S_)))))

/-- The next column of weights. -/
def shares (v : IVec S256x256 1) (r : IVec S256 1) (e old : FVec Ideal S8x256x256 .f32) : FVec Ideal S8x256x256 .f32 :=
  select (broadcastInDim S8x256x256 ![0, 1, 2] bcast_S1x256x256_S8x256x256_0_1_2 (andi (broadcastInDim S1x256x256 ![1, 2] bcast_S256x256_S1x256x256_1_2 v)
      (broadcastInDim S1x256x256 ![0, 1, 2] bcast_S1x256x1_S1x256x256_0_1_2 (broadcastInDim S1x256x1 ![1] bcast_S256_S1x256x1_1 r))))
    (Host.divf e (broadcastInDim S8x256x256 ![0, 1, 2] bcast_S8x256x1_S8x256x256_0_1_2 (broadcastInDim S8x256x1 ![0, 1] bcast_S8x256_S8x256x1_0_1
      (Host.reduceAdd e (constant S_ .f32 0x00000000#32) reducesTo_S8x256x256_S8x256_d2 h_S_)))) old

/-- The pattern of negative infinity. -/
theorem neg_inf_eq : Ideal.ofBits .f32 0xFF800000#32 = ⊥ := by simp [Ideal.ofBits, Ideal.ieee]

/-- The pattern of positive infinity. -/
theorem pos_inf_eq : Ideal.ofBits .f32 0x7F800000#32 = ⊤ := by simp [Ideal.ofBits, Ideal.ieee]

/-- The column mask at an index. -/
theorem valid_apply (w : ℕ) (hw : w < 256) (n i : Fin 256) :
    valid (BitVec.ofNat 32 w) (ix2 n i) = BitVec.ofBool (decide (n.val ≤ i.val) && decide (i.val < w)) := by
  pointwise [valid, colIx, rowIx]
  rw [cmpi_sge_ofNat (by omega) (by omega), cmpi_slt_ofNat (by omega) (by omega), andi_ofBool]

/-- The row mask at an index. -/
theorem room_apply (w : ℕ) (hw : w < 256) (n : Fin 256) : room (BitVec.ofNat 32 w) (ix1 n) = BitVec.ofBool (decide (n.val < w)) := by
  pointwise [room, rowIx]
  rw [cmpi_slt_ofNat (by omega) (by omega)]

/-- The candidates at an index. -/
theorem cands_apply (x v p) (b : Fin 8) (n i : Fin 256) :
    cands x v p (ix3 b n i) = Scalar.select (v (ix2 n i)) (x (ix3 b n i) + next (fun j => p (ix2 b j)) i) ⊤ := by
  pointwise [cands]
  have e : id (constant (F := Ideal) S_ .f32 0x7F800000#32) ix0 = ⊤ := pos_inf_eq
  rw [e]
  unfold next
  by_cases h : i.val + 1 < 256
  · rw [dif_pos (show i.val < 255 by omega), dif_pos h]
    simp only [Nat.add_comm 1]
  · rw [dif_neg (show ¬i.val < 255 by omega), dif_neg h]

/-- The least candidates at an index. -/
theorem leasts_apply (r s old) (b : Fin 8) (n : Fin 256) :
    leasts r s old (ix2 b n) = Scalar.select (r (ix1 n)) ((Finset.univ : Finset (Fin 256)).fold min ⊤ fun j => s (ix3 b n j)) (old (ix2 b n)) := by
  pointwise [leasts]
  rw [pos_inf_eq]

/-- The greatest of the negated is the least negated. -/
theorem max_neg (a : Fin 256 → EReal) : max ⊥ ((Finset.univ : Finset (Fin 256)).fold max ⊥ fun j => -a j) = -((Finset.univ : Finset (Fin 256)).fold min ⊤ a) := by
  rw [max_eq_right bot_le]
  refine eq_of_forall_ge_iff fun c => ?_
  rw [Finset.fold_max_le, EReal.neg_le, Finset.le_fold_min]
  exact and_congr (by simp) (forall₂_congr fun j _ => EReal.neg_le)

/-- The exponentials at an index. -/
theorem exps_apply (s) (b : Fin 8) (n i : Fin 256) :
    exps s (ix3 b n i) = Ideal.exp (((Finset.univ : Finset (Fin 256)).fold min ⊤ fun j => s (ix3 b n j)) - s (ix3 b n i)) := by
  pointwise [exps]
  rw [neg_inf_eq, max_neg, sub_eq_add_neg, neg_neg, add_comm, ← sub_eq_add_neg]

/-- The shares at an index. -/
theorem shares_apply (v r e old) (b : Fin 8) (n i : Fin 256) :
    shares v r e old (ix3 b n i) = Scalar.select (IntOp.andi (v (ix2 n i)) (r (ix1 n))) (Ideal.div (e (ix3 b n i)) (∑ j, e (ix3 b n j))) (old (ix3 b n i)) := by
  pointwise [shares]

/-- One column of the cost table. -/
def colOf (o : ℕ) (C : FVec Ideal S8x256x16 .f32) (h : S8x256x16.Slices ![0, 0, o] S8x256x1) : FVec Ideal S8x256 .f32 :=
  shapeCast _ (extractStridedSlice S8x256x1 ![0, 0, o] C h) shapeCasts_S8x256x1_S8x256

/-- One column of the weights. -/
def allOf (o : ℕ) (A : FVec Ideal S8x256x16x256 .f32) (h : S8x256x16x256.Slices ![0, 0, o, 0] S8x256x1x256) : FVec Ideal S8x256x256 .f32 :=
  shapeCast _ (extractStridedSlice S8x256x1x256 ![0, 0, o, 0] A h) shapeCasts_S8x256x1x256_S8x256x256

theorem colOf_apply (o : Fin 16) (C h) (b : Fin 8) (n : Fin 256) : colOf o.val C h (ix2 b n) = C (ix3 b n o) := by
  pointwise [colOf]

theorem allOf_apply (o : Fin 16) (A h) (b : Fin 8) (n i : Fin 256) : allOf o.val A h (ix3 b n i) = A (ix4 b n o i) := by
  pointwise [allOf]

end Cert.ReferenceIdeal.Steps
-- ==== Proof.RefValue.lean ====
module

public import proofs.«01_k».proof.Proof.RefSteps

/-! # What the reference computes

Both tables are filled column by column; after step `k` the columns up to `k` hold the optimal costs and the weights. -/

@[expose] public section

noncomputable section

namespace Cert.ReferenceIdeal.Steps

open Idealize.ShloMosaic.TcCoe Idealize.SL.Sem Idealize.ShloMosaic.StableHlo
open Cert.ReferenceIdeal Cert.ReferenceIdeal.Gen Cert.ReferenceIdeal.Value Idealize.ShloMosaic Cert.Costs Idealize.ShloMosaic.WordCmp

/-- The two tables with the columns up to `k` filled. -/
def Upto (x : FVec Ideal S8x256x256 .f32) (k : ℕ) (C : FVec Ideal S8x256x16 .f32) (A : FVec Ideal S8x256x16x256 .f32) : Prop :=
  (∀ b n j, C (ix3 b n j) = if j.val ≤ k then costs x b n j.val else 0)
    ∧ ∀ b n j i, A (ix4 b n j i) = if j.val ≤ k then weights x b n j.val i else -1

/-- The reference's candidates are the kernel's. -/
theorem cands_eq {x : FVec Ideal S8x256x256 .f32} {o k w : ℕ} (hk : k = o + 1) (hw : w + k = 256) (ho : o < 15)
    {C : FVec Ideal S8x256x16 .f32} {A : FVec Ideal S8x256x16x256 .f32} (hu : Upto x o C A) (h) (b : Fin 8) (n i : Fin 256) :
    cands x (valid (BitVec.ofNat 32 w)) (colOf o C h) (ix3 b n i) = cand x b k n i := by
  subst hk
  rw [cands_apply, valid_apply w (by omega), select_ofBool]
  unfold cand masked
  rw [if_neg (Nat.succ_ne_zero o)]
  simp only [Bool.and_eq_true, decide_eq_true_eq]
  by_cases hv : n.val ≤ i.val ∧ i.val + (o + 1) < 256
  · rw [if_pos (show n.val ≤ i.val ∧ i.val < w from ⟨hv.1, by omega⟩), if_pos hv, Nat.add_sub_cancel]
    unfold next
    rw [dif_pos (by omega), dif_pos (by omega)]
    refine congrArg (x (ix3 b n i) + ·) ((colOf_apply ⟨o, by omega⟩ C h b ⟨i.val + 1, by omega⟩).trans ?_)
    rw [hu.1, if_pos (le_refl o)]
    unfold costs
    rw [if_neg fun q : 1 ≤ o ∧ 256 ≤ i.val + 1 + o => absurd q.2 (by omega)]
  · rw [if_neg fun q : n.val ≤ i.val ∧ i.val < w => hv ⟨q.1, by omega⟩, if_neg hv]

/-- One step fills one more column. -/
theorem upto_next {x : FVec Ideal S8x256x256 .f32} (o k w : ℕ) (hk : k = o + 1) (hw : w + k = 256) (ho : o < 15)
    {C : FVec Ideal S8x256x16 .f32} {A : FVec Ideal S8x256x16x256 .f32} (hu : Upto x o C A) (h1 h2 h3) :
    Upto x k
      (Host.scatter colD (fun _ b => b) C (broadcastInDim S1 ![] bcast_S_S1 (constantI S_ 32 (BitVec.ofNat 32 k)))
        (leasts (room (BitVec.ofNat 32 w)) (cands x (valid (BitVec.ofNat 32 w)) (colOf o C h1)) (colOf k C h2)))
      (Host.scatter allD (fun _ b => b) A (broadcastInDim S1 ![] bcast_S_S1 (constantI S_ 32 (BitVec.ofNat 32 k)))
        (shares (valid (BitVec.ofNat 32 w)) (room (BitVec.ofNat 32 w)) (exps (cands x (valid (BitVec.ofNat 32 w)) (colOf o C h1))) (allOf k A h3))) := by
  have hc := cands_eq hk hw ho hu h1
  refine ⟨fun b n j => ?_, fun b n j i => ?_⟩
  · refine (col_apply ⟨k, by omega⟩ C (broadcastInDim S1 ![] bcast_S_S1 (constantI S_ 32 (BitVec.ofNat 32 k))) (fun _ => rfl) _ b n j).trans ?_
    by_cases hj : j = ⟨k, by omega⟩
    · rw [if_pos hj, leasts_apply, room_apply w (by omega), select_ofBool, colOf_apply ⟨k, by omega⟩, hu.1, if_neg (show ¬k ≤ o by omega)]
      simp only [hc, decide_eq_true_eq]
      have hjk : j.val = k := congrArg Fin.val hj
      rw [hjk, if_pos (le_refl k)]
      unfold costs
      by_cases hn : n.val < w
      · rw [if_pos hn, if_neg fun q : 1 ≤ k ∧ 256 ≤ n.val + k => absurd q.2 (by omega)]
        subst hk
        rfl
      · rw [if_neg hn, if_pos (show 1 ≤ k ∧ 256 ≤ n.val + k from ⟨by omega, by omega⟩)]
    · have hjk : j.val ≠ k := fun q => hj (Fin.ext q)
      rw [if_neg hj, hu.1]
      exact if_congr (by omega) rfl rfl
  · refine (all_apply ⟨k, by omega⟩ A (broadcastInDim S1 ![] bcast_S_S1 (constantI S_ 32 (BitVec.ofNat 32 k))) (fun _ => rfl) _ b n j i).trans ?_
    by_cases hj : j = ⟨k, by omega⟩
    · rw [if_pos hj, shares_apply, valid_apply w (by omega), room_apply w (by omega), andi_ofBool, select_ofBool, allOf_apply ⟨k, by omega⟩, hu.2,
        if_neg (show ¬k ≤ o by omega)]
      simp only [exps_apply, hc, Bool.and_eq_true, decide_eq_true_eq]
      have hjk : j.val = k := congrArg Fin.val hj
      rw [hjk, if_pos (le_refl k)]
      unfold weights
      rw [if_neg (show ¬k = 0 by omega)]
      exact if_congr (by omega) rfl rfl
    · have hjk : j.val ≠ k := fun q => hj (Fin.ext q)
      rw [if_neg hj, hu.2]
      exact if_congr (by omega) rfl rfl

variable (V0 : Valuation τ sig (Elt Ideal))

/-- The tables before the first step. -/
theorem upto_zero : Upto (V0 (Proc.devRef .tc main_arg0)) 0 (res_main_v6 V0) (res_main_v11 V0) := by
  refine ⟨fun b n j => ?_, fun b n j i => ?_⟩
  · unfold res_main_v6
    refine (col_apply 0 _ (broadcastInDim S1 ![] bcast_S_S1 (constantI S_ 32 0#32)) (fun _ => rfl) _ b n j).trans ?_
    by_cases hj : j = 0
    · rw [if_pos hj, hj]
      pointwise
      unfold costs
      rw [if_neg fun q : 1 ≤ 0 ∧ 256 ≤ n.val + 0 => absurd q.1 (by omega)]
      rfl
    · have hjk : j.val ≠ 0 := fun q => hj (Fin.ext q)
      rw [if_neg hj, if_neg (by omega)]
      pointwise
  · unfold res_main_v11
    refine (one_apply _ (concatenate S2 0 [⟨S1, (broadcastInDim S1 ![] bcast_S_S1 (constantI S_ 32 0#32))⟩, ⟨S1, (broadcastInDim S1 ![] bcast_S_S1 (constantI S_ 32 255#32))⟩]
      concatenates_S1_S1_S2_d0) (by pointwise) (by pointwise) _ b n j i).trans ?_
    pointwise
    unfold weights
    by_cases hj : j.val = 0
    · rw [if_pos (show j.val ≤ 0 by omega), if_pos hj]
      exact if_congr (by omega) rfl rfl
    · rw [if_neg (show ¬j.val ≤ 0 by omega), if_neg fun q : j.val = 0 ∧ i.val = 255 => hj q.1]

/-- The tables after step 1. -/
theorem upto_1 : Upto (V0 (Proc.devRef .tc main_arg0)) 1 (res_main_v42 V0) (res_main_v63 V0) :=
  upto_next 0 1 255 rfl rfl (by decide) (upto_zero V0) slices_S8x256x16_S8x256x1_0_0_0 slices_S8x256x16_S8x256x1_0_0_1
    slices_S8x256x16x256_S8x256x1x256_0_0_1_0

/-- The tables after step 2. -/
theorem upto_2 : Upto (V0 (Proc.devRef .tc main_arg0)) 2 (res_main_v90 V0) (res_main_v111 V0) :=
  upto_next 1 2 254 rfl rfl (by decide) (upto_1 V0) slices_S8x256x16_S8x256x1_0_0_1 slices_S8x256x16_S8x256x1_0_0_2
    slices_S8x256x16x256_S8x256x1x256_0_0_2_0

/-- The tables after step 3. -/
theorem upto_3 : Upto (V0 (Proc.devRef .tc main_arg0)) 3 (res_main_v138 V0) (res_main_v159 V0) :=
  upto_next 2 3 253 rfl rfl (by decide) (upto_2 V0) slices_S8x256x16_S8x256x1_0_0_2 slices_S8x256x16_S8x256x1_0_0_3
    slices_S8x256x16x256_S8x256x1x256_0_0_3_0

/-- The tables after step 4. -/
theorem upto_4 : Upto (V0 (Proc.devRef .tc main_arg0)) 4 (res_main_v186 V0) (res_main_v207 V0) :=
  upto_next 3 4 252 rfl rfl (by decide) (upto_3 V0) slices_S8x256x16_S8x256x1_0_0_3 slices_S8x256x16_S8x256x1_0_0_4
    slices_S8x256x16x256_S8x256x1x256_0_0_4_0

/-- The tables after step 5. -/
theorem upto_5 : Upto (V0 (Proc.devRef .tc main_arg0)) 5 (res_main_v234 V0) (res_main_v255 V0) :=
  upto_next 4 5 251 rfl rfl (by decide) (upto_4 V0) slices_S8x256x16_S8x256x1_0_0_4 slices_S8x256x16_S8x256x1_0_0_5
    slices_S8x256x16x256_S8x256x1x256_0_0_5_0

/-- The tables after step 6. -/
theorem upto_6 : Upto (V0 (Proc.devRef .tc main_arg0)) 6 (res_main_v282 V0) (res_main_v303 V0) :=
  upto_next 5 6 250 rfl rfl (by decide) (upto_5 V0) slices_S8x256x16_S8x256x1_0_0_5 slices_S8x256x16_S8x256x1_0_0_6
    slices_S8x256x16x256_S8x256x1x256_0_0_6_0

/-- The tables after step 7. -/
theorem upto_7 : Upto (V0 (Proc.devRef .tc main_arg0)) 7 (res_main_v330 V0) (res_main_v351 V0) :=
  upto_next 6 7 249 rfl rfl (by decide) (upto_6 V0) slices_S8x256x16_S8x256x1_0_0_6 slices_S8x256x16_S8x256x1_0_0_7
    slices_S8x256x16x256_S8x256x1x256_0_0_7_0

/-- The tables after step 8. -/
theorem upto_8 : Upto (V0 (Proc.devRef .tc main_arg0)) 8 (res_main_v378 V0) (res_main_v399 V0) :=
  upto_next 7 8 248 rfl rfl (by decide) (upto_7 V0) slices_S8x256x16_S8x256x1_0_0_7 slices_S8x256x16_S8x256x1_0_0_8
    slices_S8x256x16x256_S8x256x1x256_0_0_8_0

/-- The tables after step 9. -/
theorem upto_9 : Upto (V0 (Proc.devRef .tc main_arg0)) 9 (res_main_v426 V0) (res_main_v447 V0) :=
  upto_next 8 9 247 rfl rfl (by decide) (upto_8 V0) slices_S8x256x16_S8x256x1_0_0_8 slices_S8x256x16_S8x256x1_0_0_9
    slices_S8x256x16x256_S8x256x1x256_0_0_9_0

/-- The tables after step 10. -/
theorem upto_10 : Upto (V0 (Proc.devRef .tc main_arg0)) 10 (res_main_v474 V0) (res_main_v495 V0) :=
  upto_next 9 10 246 rfl rfl (by decide) (upto_9 V0) slices_S8x256x16_S8x256x1_0_0_9 slices_S8x256x16_S8x256x1_0_0_10
    slices_S8x256x16x256_S8x256x1x256_0_0_10_0

/-- The tables after step 11. -/
theorem upto_11 : Upto (V0 (Proc.devRef .tc main_arg0)) 11 (res_main_v522 V0) (res_main_v543 V0) :=
  upto_next 10 11 245 rfl rfl (by decide) (upto_10 V0) slices_S8x256x16_S8x256x1_0_0_10 slices_S8x256x16_S8x256x1_0_0_11
    slices_S8x256x16x256_S8x256x1x256_0_0_11_0

/-- The tables after step 12. -/
theorem upto_12 : Upto (V0 (Proc.devRef .tc main_arg0)) 12 (res_main_v570 V0) (res_main_v591 V0) :=
  upto_next 11 12 244 rfl rfl (by decide) (upto_11 V0) slices_S8x256x16_S8x256x1_0_0_11 slices_S8x256x16_S8x256x1_0_0_12
    slices_S8x256x16x256_S8x256x1x256_0_0_12_0

/-- The tables after step 13. -/
theorem upto_13 : Upto (V0 (Proc.devRef .tc main_arg0)) 13 (res_main_v618 V0) (res_main_v639 V0) :=
  upto_next 12 13 243 rfl rfl (by decide) (upto_12 V0) slices_S8x256x16_S8x256x1_0_0_12 slices_S8x256x16_S8x256x1_0_0_13
    slices_S8x256x16x256_S8x256x1x256_0_0_13_0

/-- The tables after step 14. -/
theorem upto_14 : Upto (V0 (Proc.devRef .tc main_arg0)) 14 (res_main_v666 V0) (res_main_v687 V0) :=
  upto_next 13 14 242 rfl rfl (by decide) (upto_13 V0) slices_S8x256x16_S8x256x1_0_0_13 slices_S8x256x16_S8x256x1_0_0_14
    slices_S8x256x16x256_S8x256x1x256_0_0_14_0

/-- The tables after the last step, written as the reference's two results. -/
theorem upto_15 : Upto (V0 (Proc.devRef .tc main_arg0)) 15
    (Host.scatter scatter_S8x256x16_S1_S8x256_01_2_2_0 (fun _ b => b) (res_main_v666 V0) (broadcastInDim S1 ![] bcast_S_S1 (constantI S_ 32 15#32)) (select (broadcastInDim S8x256 ![0, 1] bcast_S1x256_S8x256_0_1 (broadcastInDim S1x256 ![1] bcast_S256_S1x256_1 (res_main_v705 V0))) (Host.reduce FloatOps.minimumf (res_main_v707 V0) (constant S_ .f32 0x7F800000#32) reducesTo_S8x256x256_S8x256_d2 h_S_) (shapeCast _ (extractStridedSlice S8x256x1 ![0, 0, 15] (res_main_v666 V0) slices_S8x256x16_S8x256x1_0_0_15) shapeCasts_S8x256x1_S8x256)))
    (Host.scatter scatter_S8x256x16x256_S1_S8x256x256_012_2_2_0 (fun _ b => b) (res_main_v687 V0) (broadcastInDim S1 ![] bcast_S_S1 (constantI S_ 32 15#32)) (select (broadcastInDim S8x256x256 ![0, 1, 2] bcast_S1x256x256_S8x256x256_0_1_2 (andi (broadcastInDim S1x256x256 ![1, 2] bcast_S256x256_S1x256x256_1_2 (res_main_v702 V0)) (broadcastInDim S1x256x256 ![0, 1, 2] bcast_S1x256x1_S1x256x256_0_1_2 (broadcastInDim S1x256x1 ![1] bcast_S256_S1x256x1_1 (res_main_v705 V0))))) (Host.divf (res_main_v722 V0) (broadcastInDim S8x256x256 ![0, 1, 2] bcast_S8x256x1_S8x256x256_0_1_2 (broadcastInDim S8x256x1 ![0, 1] bcast_S8x256_S8x256x1_0_1 (Host.reduceAdd (res_main_v722 V0) (constant S_ .f32 0x00000000#32) reducesTo_S8x256x256_S8x256_d2 h_S_)))) (shapeCast _ (extractStridedSlice S8x256x1x256 ![0, 0, 15, 0] (res_main_v687 V0) slices_S8x256x16x256_S8x256x1x256_0_0_15_0) shapeCasts_S8x256x1x256_S8x256x256))) :=
  upto_next 14 15 241 rfl rfl (by decide) (upto_14 V0) slices_S8x256x16_S8x256x1_0_0_14 slices_S8x256x16_S8x256x1_0_0_15
    slices_S8x256x16x256_S8x256x1x256_0_0_15_0

/-- Every run of the reference ends with tables of all sixteen columns filled, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Upto (m ((c.tc : Thread nD τ).loc main_arg0)) 15 (r.2.mem ((c.tc : Thread nD τ).loc main_v714)) (r.2.mem ((c.tc : Thread nD τ).loc main_v735))
      ∧ r.2.mem ((c.tc : Thread nD τ).loc main_arg0) = m ((c.tc : Thread nD τ).loc main_arg0) :=
  (θ_run defs _ _).mono (fun r h c => ⟨by rw [(h c).1, (h c).2.1]; exact upto_15 (launchContents m c), (h c).2.2⟩) (Value.run m ρ)

end Cert.ReferenceIdeal.Steps
-- ==== Proof.Equation.lean ====
module

public import proofs.«01_k».proof.Proof.Block
public import proofs.«01_k».proof.Proof.RefValue
public import proofs.«01_k».proof.Proof.Gen.Pre_bounded

/-! # The two programs compute the same arrays

The precondition, read entry by entry; then the kernel's two outputs are the only tables with every column filled. -/

@[expose] public section

noncomputable section

namespace Cert.Equation

open Idealize.ShloMosaic Cert.Costs

/-- The pattern of six million. -/
theorem bound_eq : Ideal.ofBits .f32 0x4AB71B00#32 = ((6000000 : ℝ) : EReal) := by
  simp [Ideal.ofBits, Ideal.ieee, -EReal.coe_mul]
  norm_num

/-- Two bits are both one where their conjunction is. -/
theorem bits_of_and : ∀ {a b : Bool}, BitVec.ofBool a &&& BitVec.ofBool b = 1#1 → a = true ∧ b = true := by decide

/-- Under the precondition every entry is above `-∞` and at most six million. -/
theorem entry_bounded {x : FVec Ideal ⟨3, ![8, 256, 256]⟩ .f32} (h : Cert.Pre_bounded.fn (F := Ideal) x = fun _ => 1#1)
    (j : (⟨3, ![8, 256, 256]⟩ : Shape).Idx) : x j ≠ ⊥ ∧ x j ≤ ((6000000 : ℝ) : EReal) := by
  obtain ⟨h1, h2⟩ := bits_of_and (congrFun h j)
  have h1' : Ideal.ofBits .f32 0xFF800000#32 < x j := of_decide_eq_true h1
  have h2' : x j ≤ Ideal.ofBits .f32 0x4AB71B00#32 := of_decide_eq_true h2
  exact ⟨ne_bot_of_gt h1', bound_eq ▸ h2'⟩

variable {x : FVec Ideal ⟨3, ![8, 256, 256]⟩ .f32} {C : FVec Ideal ⟨3, ![8, 256, 16]⟩ .f32} {A : FVec Ideal ⟨4, ![8, 256, 16, 256]⟩ .f32}

/-- A table of costs with all sixteen columns filled is the kernel's first output. -/
theorem costs_eq (hx : ∀ j, x j ≠ ⊥) (hu : Cert.ReferenceIdeal.Steps.Upto x 15 C A) : C = Cert.KernelIdeal.Body.table (F := Ideal) x := by
  funext y
  obtain ⟨b, n, k, rfl⟩ : ∃ (b : Fin 8) (n : Fin 256) (k : Fin 16), y = ix3 b n k := ⟨y 0, y 1, y 2, eq_ix3 y⟩
  rw [hu.1, if_pos (Nat.le_of_lt_succ k.isLt), Cert.KernelIdeal.Body.table_apply hx]

/-- A table of weights with all sixteen columns filled is the kernel's second output. -/
theorem weights_eq (hx : ∀ j, x j ≠ ⊥) (hB : ∀ j, x j ≤ ((6000000 : ℝ) : EReal)) (hu : Cert.ReferenceIdeal.Steps.Upto x 15 C A) :
    A = Cert.KernelIdeal.Body.softmins (F := Ideal) x := by
  funext y
  obtain ⟨b, n, k, i, rfl⟩ : ∃ (b : Fin 8) (n : Fin 256) (k : Fin 16) (i : Fin 256), y = ix4 b n k i :=
    ⟨y 0, y 1, y 2, y 3, Cert.KernelIdeal.Body.quad_eq rfl rfl rfl rfl⟩
  rw [hu.2, if_pos (Nat.le_of_lt_succ k.isLt), Cert.KernelIdeal.Body.softmins_apply hx hB]

end Cert.Equation

end
-- ==== Proof.lean ====
module

public import proofs.«01_k».proof.Defs
public import proofs.«01_k».proof.Proof.WordFrame
public import proofs.«01_k».proof.Proof.Equation
public import Idealize.ShloMosaic.Adequacy
public import Idealize.ShloMosaic.Init

@[expose] public section

noncomputable section

namespace Cert.Proof

open Idealize.ShloMosaic Idealize.SL.Sem

/-- Every run of the reference ends with its argument unchanged and the counters at zero. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

/-- The named literal reads as `⊤`. -/
theorem preserves : Cert.preserves_Kernel_KernelIdeal :=
  IdealRules.named_const.statement Cert.KernelIdeal.κ "mask" .f32 0x4E6E6B28#32 ⊤ (by simp [Cert.KernelIdeal.κ])

/-- Under the precondition both programs end with the same two results: the kernel's arrays of its argument. -/
theorem algebraic : Cert.algebraic_KernelIdeal_ReferenceIdeal_pre_bounded := by
  intro m ρ m' ρ' hpre hagree
  refine ⟨fun c => Cert.KernelIdeal.Body.table (Cert.KernelIdeal.Body.arg m c),
    fun c => Cert.KernelIdeal.Body.softmins (Cert.KernelIdeal.Body.arg m c), Cert.KernelIdeal.Body.run m ρ, ?_⟩
  refine (θ_run Cert.ReferenceIdeal.defs _ _).mono (fun r h c => ?_) (Cert.ReferenceIdeal.Steps.run m' ρ')
  obtain ⟨hu, hkept⟩ := h c
  rw [hagree c] at hu
  have hx := Cert.Equation.entry_bounded (hpre c)
  exact ⟨Cert.Equation.costs_eq (fun j => (hx j).1) hu, Cert.Equation.weights_eq (fun j => (hx j).1) (fun j => (hx j).2) hu, hkept⟩

/-- The claims of this certificate. -/
theorem claim : Cert.Claim :=
  ⟨Cert.Kernel.Gen.facts, Cert.KernelIdeal.Gen.facts, Cert.ReferenceIdeal.Gen.facts, Cert.Pre_bounded.Gen.facts,
    Cert.WordFrame.frame, fun m ρ _ => Cert.KernelIdeal.Body.frame m ρ,
    fun m ρ _ => Cert.KernelIdeal.Body.frame m ρ, reference_frame, fun m ρ _ => reference_frame m ρ trivial,
    preserves, algebraic⟩

end Cert.Proof

end
